-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_no_tie [hKernelIdeal : Cert.KernelIdeal.Facts] [hReferenceIdeal : Cert.ReferenceIdeal.Facts] [hOn_no_tie : Cert.On_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 2, 4] ![[0], []] c) ((Cert.On_no_tie.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 512]⟩ : Shape).Idx → _) i = 1#1 → r.2.mem ((c.tc : Thread Cert.KernelIdeal.nD Cert.KernelIdeal.τ).loc Cert.KernelIdeal.main_v1) i = (Layout.blockN ⟨2, ![256, 512]⟩ ⟨2, ![512, 512]⟩ (Layout.meshBlock [2, 2, 4] ![[0], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_no_tie.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v154) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_no_tie : Cert.On_no_tie.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_no_tie (hKernelIdeal := hKernelIdeal) (hReferenceIdeal := hReferenceIdeal) (hOn_no_tie := hOn_no_tie)
-- ==== On_no_tie.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x3 : Shape := ⟨2, ![512, 3]⟩
abbrev S512x1 : Shape := ⟨2, ![512, 1]⟩
abbrev S512 : Shape := ⟨1, ![512]⟩
abbrev S_ : Shape := ⟨0, ![]⟩

class Facts : Prop where
  sliceFits_S512x4_S512x3 : S512x4.Slices (fun _ => 0) S512x3
  slices_S512x3_S512x1_0_0 : S512x3.Slices ![0, 0] S512x1
  shapeCasts_S512x1_S512 : S512x1.ShapeCasts S512
  bcast_S_S512 : S_.BroadcastsInDim S512 (![] : Fin 0 → Fin S512.rank)
  slices_S512x3_S512x1_0_1 : S512x3.Slices ![0, 1] S512x1
  slices_S512x3_S512x1_0_2 : S512x3.Slices ![0, 2] S512x1
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []

variable [Facts]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n none l r) main_arg0 main_arg1
  let main_values : FVec F S512x3 .f32 := (fun x => (Host.topK S512x3 1 (FloatOps.cmpfTotal .gt) x sliceFits_S512x4_S512x3).1) main_v0
  let main_indices : IVec S512x3 32 := (fun x => (Host.topK S512x3 1 (FloatOps.cmpfTotal .gt) x sliceFits_S512x4_S512x3).2) main_v0
  let main_v1 : FVec F S512x1 .f32 := (extractStridedSlice S512x1 ![0, 0] · slices_S512x3_S512x1_0_0) main_values
  let main_v2 : FVec F S512 .f32 := shapeCast S512 main_v1 shapeCasts_S512x1_S512
  let main_cst : FVec F S_ .f32 := constant S_ .f32 0x7F800000#32
  let main_v3 : FVec F S512 .f32 := broadcastInDim S512 ![] bcast_S_S512 main_cst
  let main_v4 : IVec S512 1 := cmpf .olt main_v2 main_v3
  let main_v5 : FVec F S512x1 .f32 := (extractStridedSlice S512x1 ![0, 1] · slices_S512x3_S512x1_0_1) main_values
  let main_v6 : FVec F S512 .f32 := shapeCast S512 main_v5 shapeCasts_S512x1_S512
  let main_v7 : FVec F S512x1 .f32 := (extractStridedSlice S512x1 ![0, 0] · slices_S512x3_S512x1_0_0) main_values
  let main_v8 : FVec F S512 .f32 := shapeCast S512 main_v7 shapeCasts_S512x1_S512
  let main_v9 : IVec S512 1 := cmpf .olt main_v6 main_v8
  let main_v10 : IVec S512 1 := andi main_v4 main_v9
  let main_v11 : FVec F S512x1 .f32 := (extractStridedSlice S512x1 ![0, 2] · slices_S512x3_S512x1_0_2) main_values
  let main_v12 : FVec F S512 .f32 := shapeCast S512 main_v11 shapeCasts_S512x1_S512
  let main_v13 : FVec F S512x1 .f32 := (extractStridedSlice S512x1 ![0, 1] · slices_S512x3_S512x1_0_1) main_values
  let main_v14 : FVec F S512 .f32 := shapeCast S512 main_v13 shapeCasts_S512x1_S512
  let main_v15 : IVec S512 1 := cmpf .olt main_v12 main_v14
  let main_v16 : IVec S512 1 := andi main_v10 main_v15
  let main_v17 : IVec S512x1 1 := broadcastInDim S512x1 ![0] bcast_S512_S512x1_0 main_v16
  let main_v18 : IVec S512x512 1 := broadcastInDim S512x512 ![0, 1] bcast_S512x1_S512x512_0_1 main_v17
  main_v18
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S2x512 : Shape := ⟨2, ![2, 512]⟩
abbrev S2x256 : Shape := ⟨2, ![2, 256]⟩
abbrev S5 : Shape := ⟨1, ![5]⟩
abbrev S_ : Shape := ⟨0, ![]⟩
abbrev S1 : Shape := ⟨1, ![1]⟩
abbrev S256x2 : Shape := ⟨2, ![256, 2]⟩
abbrev S256x4 : Shape := ⟨2, ![256, 4]⟩
abbrev S256 : Shape := ⟨1, ![256]⟩
abbrev S256x1 : Shape := ⟨2, ![256, 1]⟩
abbrev S128x512 : Shape := ⟨2, ![128, 512]⟩
abbrev S128x2 : Shape := ⟨2, ![128, 2]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩
abbrev S128x1 : Shape := ⟨2, ![128, 1]⟩
abbrev S256x1024 : Shape := ⟨2, ![256, 1024]⟩

abbrev nBuf : Space → Nat
  | .hbm => 5
  | .vmem => 15
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S2x512, .f32⟩
  | .local _ .vmem, ⟨8, _⟩ => ⟨S2x512, .f32⟩
  | .local _ .vmem, ⟨9, _⟩ => ⟨S2x256, .f32⟩
  | .local _ .vmem, ⟨10, _⟩ => ⟨S2x256, .f32⟩
  | .local _ .vmem, ⟨11, _⟩ => ⟨S256x512, .bf16⟩
  | .local _ .vmem, ⟨12, _⟩ => ⟨S256x512, .bf16⟩
  | .local _ .vmem, ⟨13, _⟩ => ⟨S2x512x1024, .bf16⟩
  | .local _ .vmem, ⟨14, _⟩ => ⟨S2x1024x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_14 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_13 : BitVec 32 := 8#32
  let v23 : BitVec 32 := Scalar.muli v9 c8_i32_13
  let v24 : BitVec 32 := Scalar.addi c0_i32_14 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v25 : BitVec 32 := Scalar.muli v5 c4_i32_15
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v27 : BitVec 32 := Scalar.muli v8 c1_i32_16
  let v28 : BitVec 32 := Scalar.addi v26 v27
  v28.toNat
def k0_dev3 (d0 : Dev nD) : Nat :=
  let c0_i32_24 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_23 : BitVec 32 := 8#32
  let v39 : BitVec 32 := Scalar.muli v9 c8_i32_23
  let v40 : BitVec 32 := Scalar.addi c0_i32_24 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v41 : BitVec 32 := Scalar.muli v5 c4_i32_25
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v43 : BitVec 32 := Scalar.muli v8 c1_i32_26
  let v44 : BitVec 32 := Scalar.addi v42 v43
  v44.toNat
def k0_dev4 (d0 : Dev nD) : Nat :=
  let c0_i32_52 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_51 : BitVec 32 := 8#32
  let v97 : BitVec 32 := Scalar.muli v9 c8_i32_51
  let v98 : BitVec 32 := Scalar.addi c0_i32_52 v97
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v99 : BitVec 32 := Scalar.muli v5 c4_i32_53
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v101 : BitVec 32 := Scalar.muli v8 c1_i32_54
  let v102 : BitVec 32 := Scalar.addi v100 v101
  v102.toNat
def k0_dev5 (d0 : Dev nD) : Nat :=
  let c0_i32_104 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_103 : BitVec 32 := 8#32
  let v168 : BitVec 32 := Scalar.muli v9 c8_i32_103
  let v169 : BitVec 32 := Scalar.addi c0_i32_104 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v170 : BitVec 32 := Scalar.muli v5 c4_i32_105
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v172 : BitVec 32 := Scalar.muli v8 c1_i32_106
  let v173 : BitVec 32 := Scalar.addi v171 v172
  v173.toNat
def k0_dev6 (d0 : Dev nD) : Nat :=
  let c0_i32_135 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_134 : BitVec 32 := 8#32
  let v211 : BitVec 32 := Scalar.muli v9 c8_i32_134
  let v212 : BitVec 32 := Scalar.addi c0_i32_135 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v213 : BitVec 32 := Scalar.muli v5 c4_i32_136
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v215 : BitVec 32 := Scalar.muli v8 c1_i32_137
  let v216 : BitVec 32 := Scalar.addi v214 v215
  v216.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 212
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x2, .f32⟩
  | 6 => ⟨S512x2, .i32⟩
  | 7 => ⟨S_, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S_, .f32⟩
  | 19 => ⟨S512x512, .f32⟩
  | 20 => ⟨S512x1, .i32⟩
  | 21 => ⟨S512, .i32⟩
  | 22 => ⟨S_, .i32⟩
  | 23 => ⟨S512, .i32⟩
  | 24 => ⟨S512, .i1⟩
  | 25 => ⟨S512x1, .i1⟩
  | 26 => ⟨S1x512x1024, .f32⟩
  | 27 => ⟨S512x1024, .f32⟩
  | 28 => ⟨S512x1024, .f32⟩
  | 29 => ⟨S_, .f32⟩
  | 30 => ⟨S512x1024, .f32⟩
  | 31 => ⟨S512x1024, .f32⟩
  | 32 => ⟨S1x1024x512, .f32⟩
  | 33 => ⟨S1024x512, .f32⟩
  | 34 => ⟨S512x512, .f32⟩
  | 35 => ⟨S512x1, .f32⟩
  | 36 => ⟨S512x512, .f32⟩
  | 37 => ⟨S512x512, .f32⟩
  | 38 => ⟨S_, .f32⟩
  | 39 => ⟨S_, .f32⟩
  | 40 => ⟨S512x512, .i1⟩
  | 41 => ⟨S512x512, .f32⟩
  | 42 => ⟨S512x512, .f32⟩
  | 43 => ⟨S512x512, .f32⟩
  | 44 => ⟨S512x1, .i32⟩
  | 45 => ⟨S512, .i32⟩
  | 46 => ⟨S_, .i32⟩
  | 47 => ⟨S512, .i32⟩
  | 48 => ⟨S512, .i1⟩
  | 49 => ⟨S512x1, .i1⟩
  | 50 => ⟨S1x512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x512, .f32⟩
  | 57 => ⟨S1024x512, .f32⟩
  | 58 => ⟨S512x512, .f32⟩
  | 59 => ⟨S512x1, .f32⟩
  | 60 => ⟨S512x512, .f32⟩
  | 61 => ⟨S512x512, .f32⟩
  | 62 => ⟨S_, .f32⟩
  | 63 => ⟨S_, .f32⟩
  | 64 => ⟨S512x512, .i1⟩
  | 65 => ⟨S512x512, .f32⟩
  | 66 => ⟨S512x512, .f32⟩
  | 67 => ⟨S512x512, .f32⟩
  | 68 => ⟨S512x1, .i32⟩
  | 69 => ⟨S512, .i32⟩
  | 70 => ⟨S_, .i32⟩
  | 71 => ⟨S512, .i32⟩
  | 72 => ⟨S512, .i1⟩
  | 73 => ⟨S512x1, .i1⟩
  | 74 => ⟨S1x512x1024, .f32⟩
  | 75 => ⟨S512x1024, .f32⟩
  | 76 => ⟨S512x1024, .f32⟩
  | 77 => ⟨S_, .f32⟩
  | 78 => ⟨S512x1024, .f32⟩
  | 79 => ⟨S512x1024, .f32⟩
  | 80 => ⟨S1x1024x512, .f32⟩
  | 81 => ⟨S1024x512, .f32⟩
  | 82 => ⟨S512x512, .f32⟩
  | 83 => ⟨S512x1, .f32⟩
  | 84 => ⟨S512x512, .f32⟩
  | 85 => ⟨S512x512, .f32⟩
  | 86 => ⟨S_, .f32⟩
  | 87 => ⟨S_, .f32⟩
  | 88 => ⟨S512x512, .i1⟩
  | 89 => ⟨S512x512, .f32⟩
  | 90 => ⟨S512x512, .f32⟩
  | 91 => ⟨S512x512, .f32⟩
  | 92 => ⟨S512x1, .i32⟩
  | 93 => ⟨S512, .i32⟩
  | 94 => ⟨S_, .i32⟩
  | 95 => ⟨S512, .i32⟩
  | 96 => ⟨S512, .i1⟩
  | 97 => ⟨S512x1, .i1⟩
  | 98 => ⟨S1x512x1024, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S1x1024x512, .f32⟩
  | 105 => ⟨S1024x512, .f32⟩
  | 106 => ⟨S512x512, .f32⟩
  | 107 => ⟨S512x1, .f32⟩
  | 108 => ⟨S512x512, .f32⟩
  | 109 => ⟨S512x512, .f32⟩
  | 110 => ⟨S_, .f32⟩
  | 111 => ⟨S_, .f32⟩
  | 112 => ⟨S512x512, .i1⟩
  | 113 => ⟨S512x512, .f32⟩
  | 114 => ⟨S512x512, .f32⟩
  | 115 => ⟨S512x512, .f32⟩
  | 116 => ⟨S512x1, .i32⟩
  | 117 => ⟨S512, .i32⟩
  | 118 => ⟨S_, .i32⟩
  | 119 => ⟨S512, .i32⟩
  | 120 => ⟨S512, .i1⟩
  | 121 => ⟨S512x1, .i1⟩
  | 122 => ⟨S1x512x1024, .f32⟩
  | 123 => ⟨S512x1024, .f32⟩
  | 124 => ⟨S512x1024, .f32⟩
  | 125 => ⟨S_, .f32⟩
  | 126 => ⟨S512x1024, .f32⟩
  | 127 => ⟨S512x1024, .f32⟩
  | _ => ⟨S512x512, .f32⟩

abbrev hbmTy0_1 (i : Nat) : BufTy := match i % 128 with
  | 0 => ⟨S1x1024x512, .f32⟩
  | 1 => ⟨S1024x512, .f32⟩
  | 2 => ⟨S512x512, .f32⟩
  | 3 => ⟨S512x1, .f32⟩
  | 4 => ⟨S512x512, .f32⟩
  | 5 => ⟨S512x512, .f32⟩
  | 6 => ⟨S_, .f32⟩
  | 7 => ⟨S_, .f32⟩
  | 8 => ⟨S512x512, .i1⟩
  | 9 => ⟨S512x512, .f32⟩
  | 10 => ⟨S512x512, .f32⟩
  | 11 => ⟨S512x512, .f32⟩
  | 12 => ⟨S512x1, .i32⟩
  | 13 => ⟨S512, .i32⟩
  | 14 => ⟨S_, .i32⟩
  | 15 => ⟨S512, .i32⟩
  | 16 => ⟨S512, .i1⟩
  | 17 => ⟨S512x1, .i1⟩
  | 18 => ⟨S1x512x1024, .f32⟩
  | 19 => ⟨S512x1024, .f32⟩
  | 20 => ⟨S512x1024, .f32⟩
  | 21 => ⟨S_, .f32⟩
  | 22 => ⟨S512x1024, .f32⟩
  | 23 => ⟨S512x1024, .f32⟩
  | 24 => ⟨S1x1024x512, .f32⟩
  | 25 => ⟨S1024x512, .f32⟩
  | 26 => ⟨S512x512, .f32⟩
  | 27 => ⟨S512x1, .f32⟩
  | 28 => ⟨S512x512, .f32⟩
  | 29 => ⟨S512x512, .f32⟩
  | 30 => ⟨S_, .f32⟩
  | 31 => ⟨S_, .f32⟩
  | 32 => ⟨S512x512, .i1⟩
  | 33 => ⟨S512x512, .f32⟩
  | 34 => ⟨S512x512, .f32⟩
  | 35 => ⟨S512x512, .f32⟩
  | 36 => ⟨S512x1, .i32⟩
  | 37 => ⟨S512, .i32⟩
  | 38 => ⟨S_, .i32⟩
  | 39 => ⟨S512, .i32⟩
  | 40 => ⟨S512, .i1⟩
  | 41 => ⟨S512x1, .i1⟩
  | 42 => ⟨S1x512x1024, .f32⟩
  | 43 => ⟨S512x1024, .f32⟩
  | 44 => ⟨S512x1024, .f32⟩
  | 45 => ⟨S_, .f32⟩
  | 46 => ⟨S512x1024, .f32⟩
  | 47 => ⟨S512x1024, .f32⟩
  | 48 => ⟨S1x1024x512, .f32⟩
  | 49 => ⟨S1024x512, .f32⟩
  | 50 => ⟨S512x512, .f32⟩
  | 51 => ⟨S512x1, .f32⟩
  | 52 => ⟨S512x512, .f32⟩
  | 53 => ⟨S512x512, .f32⟩
  | 54 => ⟨S_, .f32⟩
  | 55 => ⟨S_, .f32⟩
  | 56 => ⟨S512x512, .i1⟩
  | 57 => ⟨S512x512, .f32⟩
  | 58 => ⟨S512x512, .f32⟩
  | 59 => ⟨S512x512, .f32⟩
  | 60 => ⟨S512x1, .i32⟩
  | 61 => ⟨S512, .i32⟩
  | 62 => ⟨S_, .i32⟩
  | 63 => ⟨S512, .i32⟩
  | 64 => ⟨S512, .i1⟩
  | 65 => ⟨S512x1, .i1⟩
  | 66 => ⟨S1x512x1024, .f32⟩
  | 67 => ⟨S512x1024, .f32⟩
  | 68 => ⟨S512x1024, .f32⟩
  | 69 => ⟨S_, .f32⟩
  | 70 => ⟨S512x1024, .f32⟩
  | 71 => ⟨S512x1024, .f32⟩
  | 72 => ⟨S1x1024x512, .f32⟩
  | 73 => ⟨S1024x512, .f32⟩
  | 74 => ⟨S512x512, .f32⟩
  | 75 => ⟨S512x1, .f32⟩
  | 76 => ⟨S512x512, .f32⟩
  | 77 => ⟨S512x512, .f32⟩
  | 78 => ⟨S_, .f32⟩
  | 79 => ⟨S_, .f32⟩
  | 80 => ⟨S512x512, .i1⟩
  | 81 => ⟨S512x512, .f32⟩
  | 82 => ⟨S512x512, .f32⟩
  | 83 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_14 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_15 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_16 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_17 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_18 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_19 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_20 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_21 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_22 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_23 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_24 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_v153 : Ref sig .tc := ⟨.hbm, 210, rfl⟩
abbrev main_v154 : Ref sig .tc := ⟨.hbm, 211, rfl⟩

abbrev nD : Nat := 1
abbrev τ : Topo := Topo.v7x

variable {F : FTy → Type} [FloatOps F]
-- ==== Proof.Protocol.lean ====
/-
# The protocol of the expert exchange

Device `c` talks to one other device, `peer c`: the device whose `x` coordinate is the other one.  Each device has
eleven cells, numbered `0 … 10`:

* `0`: the runtime's barrier semaphore.  `peer c` signals it once; the signal hands `c` the landing buffers of `peer c`.
* `1 … 5`: the receive cells, credited by the five transfers of `peer c`: the tokens, the router columns, the routing
  weights, the two halves of the partial sums.  Each hands `c` its landing buffer at what `peer c` sent.
* `6 … 10`: the send cells, credited by `c`'s own transfers.  Each hands `c` back the source.

Every cell has one round with one duty.  The source of the token transfer is lent at half its share: the kernel loads
the sent block while the transfer is in flight.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's and the exchange's (one duty name) -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The peer -/

/-- The device with the other `x` coordinate. -/
def peer (c : Dev nD) : Dev nD := ⟨(c.val + 8) % 16, Nat.mod_lt _ (by decide)⟩

theorem peer_peer (c : Dev nD) : peer (peer c) = c := by revert c; decide

theorem dev1_eq : ∀ c : Dev nD, (⟨k0_dev1 c, k0_dev1_lt c⟩ : Dev nD) = peer c := by decide +kernel
theorem dev2_eq : ∀ c : Dev nD, (⟨k0_dev2 c, k0_dev2_lt c⟩ : Dev nD) = peer c := by decide +kernel
theorem dev3_eq : ∀ c : Dev nD, (⟨k0_dev3 c, k0_dev3_lt c⟩ : Dev nD) = peer c := by decide +kernel
theorem dev4_eq : ∀ c : Dev nD, (⟨k0_dev4 c, k0_dev4_lt c⟩ : Dev nD) = peer c := by decide +kernel
theorem dev5_eq : ∀ c : Dev nD, (⟨k0_dev5 c, k0_dev5_lt c⟩ : Dev nD) = peer c := by decide +kernel
theorem dev6_eq : ∀ c : Dev nD, (⟨k0_dev6 c, k0_dev6_lt c⟩ : Dev nD) = peer c := by decide +kernel

/-! ## The memrefs -/

abbrev xM : Memref sig .tc .vmem S256x512 .f32 := Memref.whole cc0_stg0_0
abbrev rM : Memref sig .tc .vmem S512x2 .f32 := Memref.whole cc0_stg1_0
abbrev uM : Memref sig .tc .vmem S2x512x1024 .f32 := Memref.whole cc0_stg2_0
abbrev vM : Memref sig .tc .vmem S2x1024x512 .f32 := Memref.whole cc0_stg3_0
abbrev oM : Memref sig .tc .vmem S256x512 .f32 := Memref.whole cc0_stg4_0
abbrev xS : Memref sig .tc .vmem S256x512 .bf16 := Memref.whole cc0_scratch0
abbrev xR : Memref sig .tc .vmem S256x512 .bf16 := Memref.whole cc0_scratch1
abbrev rS : Memref sig .tc .vmem S2x512 .f32 := Memref.whole cc0_scratch2
abbrev rR : Memref sig .tc .vmem S2x512 .f32 := Memref.whole cc0_scratch3
abbrev wS : Memref sig .tc .vmem S2x256 .f32 := Memref.whole cc0_scratch4
abbrev wR : Memref sig .tc .vmem S2x256 .f32 := Memref.whole cc0_scratch5
abbrev pS : Memref sig .tc .vmem S256x512 .bf16 := Memref.whole cc0_scratch6
abbrev pR : Memref sig .tc .vmem S256x512 .bf16 := Memref.whole cc0_scratch7
abbrev uB : Memref sig .tc .vmem S2x512x1024 .bf16 := Memref.whole cc0_scratch8
abbrev vB : Memref sig .tc .vmem S2x1024x512 .bf16 := Memref.whole cc0_scratch9

/-- The upper and the lower 128 rows of a block of 256. -/
abbrev rLo : Rect S256x512 := Rect.unit (s := S256x512) ![0, 0] S128x512.size inb_S256x512_S128x512_0_0
abbrev rHi : Rect S256x512 := Rect.unit (s := S256x512) ![128, 0] S128x512.size inb_S256x512_S128x512_128_0

abbrev pSlo : Memref sig .tc .vmem S128x512 .bf16 := pS.slice rLo (fun _ => rfl)
abbrev pShi : Memref sig .tc .vmem S128x512 .bf16 := pS.slice rHi (fun _ => rfl)
abbrev pRlo : Memref sig .tc .vmem S128x512 .bf16 := pR.slice rLo (fun _ => rfl)
abbrev pRhi : Memref sig .tc .vmem S128x512 .bf16 := pR.slice rHi (fun _ => rfl)

/-! ## The cells -/

abbrev barS : Sem sig := (SemArray.scalar (sig.barrier 0 rfl) : Sems sig S_).sem

abbrev s5 (A : DmaSems sig S5) (i : Fin 5) : DmaSem sig := match i with
  | 0 => ((A.slice (Rect.unit (s := S5) ![0] S1.size inb_S5_S1_0)).squeeze S_ squeezes_S1_S_).sem
  | 1 => ((A.slice (Rect.unit (s := S5) ![1] S1.size inb_S5_S1_1)).squeeze S_ squeezes_S1_S_).sem
  | 2 => ((A.slice (Rect.unit (s := S5) ![2] S1.size inb_S5_S1_2)).squeeze S_ squeezes_S1_S_).sem
  | 3 => ((A.slice (Rect.unit (s := S5) ![3] S1.size inb_S5_S1_3)).squeeze S_ squeezes_S1_S_).sem
  | 4 => ((A.slice (Rect.unit (s := S5) ![4] S1.size inb_S5_S1_4)).squeeze S_ squeezes_S1_S_).sem

/-- The eleven semaphores: barrier, receive (tokens, columns, weights, first half, second half), send (the same). -/
abbrev csem (j : Fin 11) : SemLoc sig := match j with
  | 0 => .reg barS
  | 1 => .dma (s5 cc0_scratch11 0) | 2 => .dma (s5 cc0_scratch11 1) | 3 => .dma (s5 cc0_scratch11 2)
  | 4 => .dma (s5 cc0_scratch11 3) | 5 => .dma (s5 cc0_scratch11 4)
  | 6 => .dma (s5 cc0_scratch10 0) | 7 => .dma (s5 cc0_scratch10 1) | 8 => .dma (s5 cc0_scratch10 2)
  | 9 => .dma (s5 cc0_scratch10 3) | 10 => .dma (s5 cc0_scratch10 4)

theorem csem_injective : Function.Injective csem := by decide

abbrev kcell (c : Dev nD) (j : Fin 11) : GSem nD τ sig := ((c : Thread nD τ), csem j)

/-- Which of the eleven a semaphore is. -/
def ixOf (s : SemLoc sig) : Option (Fin 11) := (List.finRange 11).find? fun j => decide (csem j = s)

theorem ixOf_csem : ∀ j : Fin 11, ixOf (csem j) = some j := by decide

/-- What a cell's one duty credits: a unit of the barrier, a transfer's credit. -/
def amt (j : Fin 11) : ℕ := match j with
  | 0 => 1
  | 1 | 6 => xR.view.dmaCredit | 2 | 7 => rR.view.dmaCredit | 3 | 8 => wR.view.dmaCredit
  | 4 | 9 => pRlo.view.dmaCredit | 5 | 10 => pRhi.view.dmaCredit

theorem amt_pos : ∀ j : Fin 11, 0 < amt j := by
  intro j
  fin_cases j
  · exact Nat.one_pos
  all_goals exact View.dmaCredit_pos _ (by decide)

/-! ## Contents -/

/-- The blocks of device `c`'s operands, as the pipeline stages them. -/
def xin (c : Dev nD) : Vec F S256x512 .f32 := (win0_0.blk (0 : Fin 1)).view.read (Elt F) ((s₀ m ρ).mem ((c : Thread nD τ).loc main_arg0))
def rin (c : Dev nD) : Vec F S512x2 .f32 := (win0_1.blk (0 : Fin 1)).view.read (Elt F) ((s₀ m ρ).mem ((c : Thread nD τ).loc main_arg1))
def uin (c : Dev nD) : Vec F S2x512x1024 .f32 := (win0_2.blk (0 : Fin 1)).view.read (Elt F) ((s₀ m ρ).mem ((c : Thread nD τ).loc main_arg2))
def vin (c : Dev nD) : Vec F S2x1024x512 .f32 := (win0_3.blk (0 : Fin 1)).view.read (Elt F) ((s₀ m ρ).mem ((c : Thread nD τ).loc main_arg3))

/-- Expert `e` of a pair of expert matrices, and half a token block, as the kernel loads them. -/
def ex1 (X : Vec F S2x512x1024 .bf16) (e : Fin 2) : Vec F S1x512x1024 .bf16 := match e with
  | 0 => uB.view.readAt (Elt F) (Rect.unit (s := S2x512x1024) ![0, 0, 0] S1x512x1024.size inb_S2x512x1024_S1x512x1024_0_0_0).toLoadRect X
  | 1 => uB.view.readAt (Elt F) (Rect.unit (s := S2x512x1024) ![1, 0, 0] S1x512x1024.size inb_S2x512x1024_S1x512x1024_1_0_0).toLoadRect X
def ex2 (X : Vec F S2x1024x512 .bf16) (e : Fin 2) : Vec F S1x1024x512 .bf16 := match e with
  | 0 => vB.view.readAt (Elt F) (Rect.unit (s := S2x1024x512) ![0, 0, 0] S1x1024x512.size inb_S2x1024x512_S1x1024x512_0_0_0).toLoadRect X
  | 1 => vB.view.readAt (Elt F) (Rect.unit (s := S2x1024x512) ![1, 0, 0] S1x1024x512.size inb_S2x1024x512_S1x1024x512_1_0_0).toLoadRect X
def loH (X : Vec F S256x512 .bf16) : Vec F S128x512 .bf16 := xR.view.readAt (Elt F) rLo.toLoadRect X
def hiH (X : Vec F S256x512 .bf16) : Vec F S128x512 .bf16 := xR.view.readAt (Elt F) rHi.toLoadRect X

/-- The router columns sent, the tokens sent. -/
def rT (c : Dev nD) : Vec F S2x512 .f32 := k0_pay1 (rin m ρ c)
def xb (c : Dev nD) : Vec F S256x512 .bf16 := k0_pay2 (xin m ρ c)
/-- The gates of the device's own two experts and of its peer's two. -/
def gOwn (c : Dev nD) : Vec F S256x2 .f32 := k0_pay4 (xin m ρ c) (rin m ρ c)
def gPeer (c : Dev nD) : Vec F S256x2 .f32 := k0_pay5 (xin m ρ c) (rT m ρ (peer c))
/-- The routing weights; those of the peer's experts, sent. -/
def w4 (c : Dev nD) : Vec F S256x4 .f32 := k0_pay6 (gOwn m ρ c) (gPeer m ρ c)
def wT (c : Dev nD) : Vec F S2x256 .f32 := k0_pay7 (gOwn m ρ c) (gPeer m ρ c)
/-- The expert matrices in the compute format. -/
def ub (c : Dev nD) : Vec F S2x512x1024 .bf16 := k0_pay8 (uin m ρ c)
def vb (c : Dev nD) : Vec F S2x1024x512 .bf16 := k0_pay9 (vin m ρ c)
/-- The peer's weights for the device's own experts. -/
def wIn (c : Dev nD) : Vec F S256x2 .f32 := k0_pay10 (wT m ρ (peer c))
/-- The partial sums computed for the peer, in two halves. -/
def pLo (c : Dev nD) : Vec F S128x512 .bf16 :=
  k0_pay11 (wIn m ρ c) (loH (xb m ρ (peer c))) (ex1 (ub m ρ c) 0) (ex2 (vb m ρ c) 0) (ex1 (ub m ρ c) 1) (ex2 (vb m ρ c) 1)
def pHi (c : Dev nD) : Vec F S128x512 .bf16 :=
  k0_pay15 (k0_pay12 (wIn m ρ c)) (k0_pay13 (wIn m ρ c) (hiH (xb m ρ (peer c))) (ex1 (ub m ρ c) 0) (ex2 (vb m ρ c) 0))
    (k0_pay14 (hiH (xb m ρ (peer c))) (ex1 (ub m ρ c) 1) (ex2 (vb m ρ c) 1))
/-- The device's own partial sum, and the two halves of its result. -/
def own0 (c : Dev nD) : Vec F S256x512 .f32 := k0_pay17 (w4 m ρ c) (xb m ρ c) (ex1 (ub m ρ c) 0) (ex2 (vb m ρ c) 0)
def acc (c : Dev nD) : Vec F S256x512 .f32 :=
  k0_pay18 (xb m ρ c) (k0_pay16 (w4 m ρ c)) (own0 m ρ c) (ex1 (ub m ρ c) 1) (ex2 (vb m ρ c) 1)
def oLo (c : Dev nD) : Vec F S128x512 .f32 :=
  k0_pay19 (xb m ρ c) (k0_pay16 (w4 m ρ c)) (own0 m ρ c) (ex1 (ub m ρ c) 1) (ex2 (vb m ρ c) 1) (pLo m ρ (peer c))
def oHi (c : Dev nD) : Vec F S128x512 .f32 := k0_pay20 (acc m ρ c) (pHi m ρ (peer c))

/-! ## Points-tos -/

/-- The elements of a memref at some contents. -/
def held (c : Dev nD) {s : Shape} {e : EltTy} (M : Memref sig .tc .vmem s e) : sProp 𝕄 :=
  iprop(∃ f, M.view.loc (c : Thread nD τ) ↦[M.view.set]{fullShare} f)
/-- The elements of a memref at contents it reads as `X`. -/
def heldAt (c : Dev nD) {s : Shape} {e : EltTy} (M : Memref sig .tc .vmem s e) (X : Vec F s e) : sProp 𝕄 :=
  iprop(∃ f, ⌜M.view.read (Elt F) f = X⌝ ∗ (M.view.loc (c : Thread nD τ) ↦[M.view.set]{fullShare} f))
/-- The sent tokens at a share. -/
def xPts (q : PosShare TreeShare) (c : Dev nD) : sProp 𝕄 :=
  xS.view.loc (c : Thread nD τ) ↦[xS.view.set]{q} xb m ρ c

instance held_storable (c : Dev nD) {s : Shape} {e : EltTy} (M : Memref sig .tc .vmem s e) :
    BI.Storable (upEmb : UEmb _ 𝕄) (held (F := F) c M) := by unfold held; infer_instance
instance heldAt_storable (c : Dev nD) {s : Shape} {e : EltTy} (M : Memref sig .tc .vmem s e) (X : Vec F s e) :
    BI.Storable (upEmb : UEmb _ 𝕄) (heldAt (F := F) c M X) := by unfold heldAt; infer_instance
instance xPts_storable (q : PosShare TreeShare) (c : Dev nD) : BI.Storable (upEmb : UEmb _ 𝕄) (xPts (F := F) m ρ q c) := by
  unfold xPts; infer_instance

/-! ## The schedule -/

/-- What each cell's duty hands its owner. -/
def pay (c : Dev nD) (j : Fin 11) : sProp 𝕄 := match j with
  | 0 => iprop(held (peer c) xR ∗ held (peer c) rR ∗ held (peer c) wR ∗ held (peer c) pRlo ∗ held (peer c) pRhi)
  | 1 => heldAt c xR (xb m ρ (peer c))
  | 2 => heldAt c rR (rT m ρ (peer c))
  | 3 => heldAt c wR (wT m ρ (peer c))
  | 4 => heldAt c pRlo (pLo m ρ (peer c))
  | 5 => heldAt c pRhi (pHi m ρ (peer c))
  | 6 => xPts m ρ fullShare.left c
  | 7 => held c rS
  | 8 => held c wS
  | 9 => held c pSlo
  | 10 => held c pShi

instance pay_storable (c : Dev nD) (j : Fin 11) : BI.Storable (upEmb : UEmb _ 𝕄) (pay (F := F) m ρ c j) := by
  fin_cases j <;> (unfold pay; dsimp only; infer_instance)

def payO (c : Dev nD) : Option (Fin 11) → sProp 𝕄
  | some j => pay m ρ c j
  | none => iprop(emp)

instance payO_storable (c : Dev nD) (o : Option (Fin 11)) : BI.Storable (upEmb : UEmb _ 𝕄) (payO (F := F) m ρ c o) := by
  cases o <;> (unfold payO; infer_instance)

def amtO : Option (Fin 11) → ℕ
  | some j => amt j
  | none => 1

/-- One round, one duty: each of the eleven cells of a TensorCore. -/
def Rd : Rounds.Schedule (GSem nD τ sig) Unit 𝕄 where
  duties g r := if r = 0 ∧ g.1.2 = .tc ∧ (ixOf g.2).isSome then {()} else ∅
  unitless _ := False
  amount g _ _ := amtO (ixOf g.2)
  payload g _ _ := payO m ρ g.1.1 (ixOf g.2)
  amount_pos g _ _ _ := by
    rcases ixOf g.2 with _ | j
    · exact Nat.one_pos
    · exact amt_pos j

instance Rd_payload_storable (g : GSem nD τ sig) (r : ℕ) (d : Unit) :
    BI.Storable (upEmb : UEmb _ 𝕄) ((Rd (F := F) m ρ).payload g r d) := payO_storable m ρ _ _

section Sched
variable (c : Dev nD) (j : Fin 11)

theorem duties_cell : (Rd (F := F) m ρ).duties (kcell c j) 0 = {()} := by
  dsimp only [Rd]; rw [ixOf_csem]; exact if_pos ⟨rfl, rfl, rfl⟩
theorem duty_mem : () ∈ (Rd (F := F) m ρ).duties (kcell c j) 0 := by rw [duties_cell]; exact Finset.mem_singleton_self _
theorem duties_later (g : GSem nD τ sig) : ∀ r, 1 ≤ r → (Rd (F := F) m ρ).duties g r = ∅ :=
  fun r hr => by dsimp only [Rd]; rw [if_neg fun h => by omega]
theorem amount_cell (d : Unit) : (Rd (F := F) m ρ).amount (kcell c j) 0 d = amt j := by
  dsimp only [Rd]; rw [ixOf_csem]; rfl
theorem expect_cell : (Rd (F := F) m ρ).expect (kcell c j) 0 = amt j := by
  unfold Schedule.expect Schedule.amountOf; rw [duties_cell, Finset.sum_singleton, amount_cell]
theorem payload_cell (d : Unit) : (Rd (F := F) m ρ).payload (kcell c j) 0 d = pay m ρ c j := by
  dsimp only [Rd]; rw [ixOf_csem]; rfl
/-- The rest of a cell's round, nothing taken. -/
theorem rest_cell : bigSep ((Rd (F := F) m ρ).duties (kcell c j) 0 \ ∅) (fun d => (Rd (F := F) m ρ).payload (kcell c j) 0 d) = pay m ρ c j := by
  rw [Finset.sdiff_empty, duties_cell, bigSep_singleton, payload_cell]

end Sched

/-! ## What a device owes, and the levels -/

/-- The credits of the cells `l` of `peer c`. -/
def owe (c : Dev nD) : List (Fin 11) → CellTallies nD τ sig Unit
  | [] => 0
  | j :: l => owe c l + tallyAt (kcell (peer c) j) () (amt j)

/-- At launch: the signal, then the transfers in the order they are issued. -/
def O₀ (c : Dev nD) : CellTallies nD τ sig Unit := owe c [0, 2, 1, 3, 4, 5]

theorem owe_cons (c : Dev nD) (j : Fin 11) (l : List (Fin 11)) : owe c (j :: l) = owe c l + tallyAt (kcell (peer c) j) () (amt j) := rfl

def lvj (j : Fin 11) : ℕ := match j with
  | 0 => 1 | 1 | 2 => 2 | 3 => 3 | 4 | 5 => 4 | _ => 0
def lvO : Option (Fin 11) → ℕ
  | some j => lvj j
  | none => 0

def L (g : GSem nD τ sig) : Finset Unit := if g.1.2 = .tc then {()} else ∅
def lv (g : GSem nD τ sig) (_ : Unit) : ℕ := lvO (ixOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Fin 11) (u : Unit) : lv (kcell c j) u = lvj j := by unfold lv; rw [ixOf_csem]; rfl

theorem owe_pos {c : Dev nD} {g : GSem nD τ sig} {u : Unit} : ∀ {l : List (Fin 11)}, 0 < owe c l g u → ∃ j ∈ l, g = kcell (peer c) j
  | [], h => absurd h (Nat.lt_irrefl 0)
  | j :: l, h => by
    rw [owe_cons, Pi.add_apply, Finsupp.add_apply, tallyAt_apply] at h
    by_cases hg : g = kcell (peer c) j ∧ u = ()
    · exact ⟨j, List.mem_cons_self, hg.1⟩
    · rw [if_neg hg, Nat.add_zero] at h
      obtain ⟨i, hi, e⟩ := owe_pos h
      exact ⟨i, List.mem_cons_of_mem _ hi, e⟩

/-- A wait on a semaphore below every cell still owed. -/
theorem mayWait_lt (c : Dev nD) (sm : SemLoc sig) (l : List (Fin 11)) (n : ℕ) (hn : lvO (ixOf sm) ≤ n) (h : ∀ i ∈ l, n < lvj i) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨i, -, rfl⟩ := owe_pos hg; exact Finset.mem_singleton_self _)
    (fun p hp => by rw [Finset.mem_singleton.mp hp]; exact hn)
    (fun g u hg => by obtain ⟨i, hi, rfl⟩ := owe_pos hg; rw [lv_cell]; exact h i hi)

end Cert.Moe

end
-- ==== Proof.Steps.lean ====
/-
# The steps of the exchange

The records every device reads (the invariants of all cells, and that each is at round 0), and the three kinds of
step on a cell of this protocol: a wait, the signal, a transfer.  Then the whole-buffer loads and stores.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 11 → ℕ)

abbrev 𝒱₀ : Variants := Variants.none

/-- Every cell's invariant, and that every cell is at round 0 at least. -/
def records : sProp 𝕄 :=
  iprop((bigSep Finset.univ fun ck : Dev nD × Fin 11 => cellInv EX (Rd m ρ) (K ck) (kcell ck.1 ck.2))
    ∗ bigSep Finset.univ fun ck : Dev nD × Fin 11 => reached EX (kcell ck.1 ck.2) 0)

instance records_persistent : BI.Persistent (records (F := F) m ρ K) := by unfold records; infer_instance

theorem inv_of (ck : Dev nD × Fin 11) :
    (bigSep Finset.univ fun ck : Dev nD × Fin 11 => (cellInv EX (Rd m ρ) (K ck) (kcell ck.1 ck.2) : sProp 𝕄))
      ⊢ cellInv EX (Rd m ρ) (K ck) (kcell ck.1 ck.2) := bigSep_elim (Finset.mem_univ ck)
theorem reached_of (ck : Dev nD × Fin 11) :
    (bigSep Finset.univ fun ck : Dev nD × Fin 11 => (reached EX (kcell ck.1 ck.2) 0 : sProp 𝕄)) ⊢ reached EX (kcell ck.1 ck.2) 0 :=
  bigSep_elim (Finset.mem_univ ck)

theorem inv_at (c : Dev nD) (j : Fin 11) : (records (F := F) m ρ K) ⊢ cellInv EX (Rd m ρ) (K (c, j)) (kcell c j) := by
  unfold records
  iintro ⟨#HI, #HR⟩
  iapply (inv_of m ρ K (c, j)); iexact HI
theorem reached_at (c : Dev nD) (j : Fin 11) : (records (F := F) m ρ K) ⊢ reached EX (kcell c j) 0 := by
  unfold records
  iintro ⟨#HI, #HR⟩
  iapply (reached_of (F := F) (c, j)); iexact HR

/-- A wait for the whole round of one of the device's own cells, below everything the device still owes. -/
theorem wait_cell (c : Dev nD) (j : Fin 11) (l : List (Fin 11)) (hl : ∀ i ∈ l, lvj j < lvj i)
    {w : TpuEff nD τ sig (Elt F) Λ₀ .tc PUnit} {k' : ℕ} (hk : k' = amt j)
    (hw : ∀ Q : PUnit → sProp 𝕄, wpE (defs₀ (F := F)) 𝒱₀ (c : Thread nD τ) none Set.univ w Q = waitSpec (c : Thread nD τ) Set.univ (csem j) k' Q)
    {α : Type} {Q : α → sProp 𝕄} {k : PUnit → Prog (TpuEff nD τ sig (Elt F) Λ₀ .tc) α} (W : Waits sig Unit) :
    iprop(records m ρ K ∗ levAts L lv ∗ cred (tallyAt (kcell c j) () (amt j)) ∗ owes (c : Thread nD τ) (owe c l) W ∗ atPos EX (kcell c j) 0 ∅ 0)
      ⊢ iprop(((owes (c : Thread nD τ) (owe c l) (insert (csem j, ()) W) ∗ atPos EX (kcell c j) 1 ∅ 0 ∗ pay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk
  iintro ⟨#HR, #Hlev, Hc, HO, Hat⟩ Hk
  iapply (Rounds.wp_wait_rest_token 𝒱₀ EX (Rd m ρ) (c : Thread nD τ) none (κ := K (c, j)) hw (Set.mem_univ _) () (O := owe c l) (W := W)
      (R := 0) (m := 0) (T := ∅) (by rw [Nat.zero_add, expect_cell])) $$ [Hc HO Hat]
  · isplitr; · iapply (inv_at m ρ K c j); iexact HR
    isplitl [Hc]; · iexact Hc
    isplitl [HO]; · iexact HO
    isplitr; · iapply (mayWait_lt (F := F) c (csem j) l (lvj j) (by rw [ixOf_csem]; exact le_refl _) hl); iexact Hlev
    iexact Hat
  iintro ⟨HO, Hat, -, Hpay⟩
  ihave Hp := (Entails.of_eq (rest_cell m ρ c j)) $$ Hpay
  iapply Hk
  isplitl [HO]; · iexact HO
  isplitl [Hat]; · iexact Hat
  iexact Hp

/-- The signal to the peer's barrier, with the device's landing buffers. -/
theorem signal_peer (c n : Dev nD) (hn : n = peer c) (l : List (Fin 11)) (u : ℕ) (hu : u = 1)
    {α : Type} {Q : α → sProp 𝕄} {k : PUnit → Prog (TpuEff nD τ sig (Elt F) Λ₀ .tc) α} (W : Waits sig Unit) :
    iprop(records m ρ K ∗ owes (c : Thread nD τ) (owe c (0 :: l)) W ∗ dutyTok EX (kcell (peer c) 0) 0 ()
        ∗ held c xR ∗ held c rR ∗ held c wR ∗ held c pRlo ∗ held c pRhi)
      ⊢ iprop((owes (c : Thread nD τ) (owe c l) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn; subst hu
  iintro ⟨#HR, HO, Ht, Hb⟩ Hk
  iapply (Rounds.wp_signal 𝒱₀ EX (Rd m ρ) (c : Thread nD τ) none (dst := (peer c : Thread nD τ)) (κ := K (peer c, 0)) (r := 0)
      (d := ()) (duty_mem m ρ (peer c) 0) (amount_cell m ρ (peer c) 0 ()) () (owe c l) (owe_cons c 0 l)) $$ [HO Ht Hb]
  · isplitr; · iapply (inv_at m ρ K (peer c) 0); iexact HR
    isplitl [HO]; · iexact HO
    isplitl [Ht]; · iexact Ht
    isplitl [Hb]
    · rw [payload_cell m ρ (peer c) 0 ()]; unfold pay; dsimp only; rw [peer_peer]; iexact Hb
    · iapply (reached_at m ρ K (peer c) 0); iexact HR
  iexact Hk

/-- A transfer to the peer: the source comes back by cell `js` of this device, the landing by cell `jr` of the peer. -/
theorem send_peer (c n : Dev nD) (hn : n = peer c) (js jr : Fin 11) {s : Shape} {e : EltTy}
    (src dst : Memref sig .tc .vmem s e) (q : PosShare TreeShare) (X : Vec F s e)
    (hjs : dst.view.dmaCredit = amt js) (hjr : dst.view.dmaCredit = amt jr)
    (fs : Buf (Elt F) (src.view.loc (c : Thread nD τ))) (hX : src.view.read (Elt F) fs = X)
    (hp₁ : (src.view.loc (c : Thread nD τ) ↦[src.view.set]{q} fs) ⊢ (pay m ρ c js : sProp 𝕄))
    (hp₂ : (heldAt (peer c) dst X) ⊢ (pay m ρ (peer c) jr : sProp 𝕄))
    (l : List (Fin 11)) (qS qR : DmaSem sig) (hS : csem js = .dma qS) (hR : csem jr = .dma qR)
    {hsc : (dst : Memref sig (Dev.tc n : Thread nD τ).2.kind .vmem s e).view.ref.isScScratch = false}
    {hsrc : src.view.WordExact} {hdst : dst.view.WordExact}
    {hsem : DmaTarget.Typed .vmem (.dma qR) (.remote (Dev.tc n : Thread nD τ) (dst : Memref sig (Dev.tc n : Thread nD τ).2.kind .vmem s e) (.dma qS) hsc)}
    {α : Type} {Q : α → sProp 𝕄} {k : PUnit → Prog (TpuEff nD τ sig (Elt F) Λ₀ .tc) α} (W : Waits sig Unit) :
    iprop(records m ρ K ∗ (src.view.loc (c : Thread nD τ) ↦[src.view.set]{q} fs) ∗ held (peer c) dst
        ∗ owes (c : Thread nD τ) (owe c (jr :: l)) W ∗ dutyTok EX (kcell c js) 0 () ∗ dutyTok EX (kcell (peer c) jr) 0 ())
      ⊢ iprop(((cred (tallyAt (kcell c js) () (amt js)) ∗ owes (c : Thread nD τ) (owe c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) k) Q) := by
  subst hn
  unfold held
  iintro ⟨#HR, Hs, ⟨%fd, Hd⟩, HO, HtS, HtR⟩ Hk
  have hk₁ : (Rd (F := F) m ρ).amount ((c : Thread nD τ), .dma qS) 0 () = dst.view.dmaCredit := by rw [← hS]; exact (amount_cell m ρ c js ()).trans hjs.symm
  have hk₂ : (Rd (F := F) m ρ).amount ((peer c : Thread nD τ), .dma qR) 0 () = dst.view.dmaCredit := by rw [← hR]; exact (amount_cell m ρ (peer c) jr ()).trans hjr.symm
  iapply (Rounds.wp_send_pointsTo 𝒱₀ EX (Rd m ρ) (c : Thread nD τ) none (c' := (peer c : Thread nD τ)) (κ₁ := K (c, js)) (κ₂ := K (peer c, jr))
    (r₁ := 0) (r₂ := 0) (d₁ := ()) (d₂ := ()) (fd := fd) (fs := fs) (q := q) (sS := .dma qS) (sem := .dma qR)
    (by rw [← hS]; exact duty_mem m ρ c js) (by rw [← hR]; exact duty_mem m ρ (peer c) jr)
    () () dst.view.dmaCredit rfl hk₁ hk₂ (O₀ := owe c (jr :: l)) (owe c l)
    (by rw [owe_cons, hjr, ← hR]) (W := W)
    (by rw [← hS, payload_cell m ρ c js ()]; exact hp₁)
    (by
      rw [← hR, payload_cell m ρ (peer c) jr ()]
      refine BIBase.Entails.trans ?_ hp₂
      unfold heldAt
      iintro H
      iexists _
      isplitr
      · ipureintro; exact (View.read_write_univ (v := dst.view) fd _).trans hX
      · iexact H)) $$ [Hs Hd HO HtS HtR]
  · isplitr; · rw [← hS]; iapply (inv_at m ρ K c js); iexact HR
    isplitr; · rw [← hR]; iapply (inv_at m ρ K (peer c) jr); iexact HR
    isplitl [Hs]; · iexact Hs
    isplitl [Hd]; · iexact Hd
    isplitl [HO]; · iexact HO
    isplitl [HtS]; · rw [← hS]; iexact HtS
    isplitr; · rw [← hS]; iapply (reached_at m ρ K c js); iexact HR
    isplitl [HtR]; · rw [← hR]; iexact HtR
    rw [← hR]; iapply (reached_at m ρ K (peer c) jr); iexact HR
  rw [hjs, ← hS]
  iexact Hk

/-- A cell whose round is over closes: its counter is the device's again, at zero. -/
theorem close_cell (c : Dev nD) (j : Fin 11) :
    iprop(records m ρ K ∗ atPos EX (kcell c j) 1 ∅ 0) ⊢ (|={Set.univ}=> semVal (kcell c j) 0 : sProp 𝕄) := by
  iintro ⟨#HR, Hat⟩
  iapply (Rounds.cell_close EX (Rd m ρ) (Set.mem_univ (K (c, j))) (fun h => h) (R := 1) (duties_later m ρ (kcell c j)))
  isplitr; · iapply (inv_at m ρ K c j); iexact HR
  iexact Hat

/-! ## Whole buffers -/

theorem zero2 : (![0, 0] : Fin 2 → Nat) = fun _ => 0 := funext fun a => by fin_cases a <;> rfl
theorem zero3 : (![0, 0, 0] : Fin 3 → Nat) = fun _ => 0 := funext fun a => by fin_cases a <;> rfl

/-- A buffer held whole, as the memref of all of it. -/
theorem held_whole (c : Dev nD) (b : Ref sig .tc) (hb : b.space = .vmem) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  show _ = (((c : Thread nD τ).loc b) ↦[(View.whole b).set]{fullShare} f)
  rw [View.set_whole]

end Cert.Moe

end
-- ==== Proof.RunA.lean ====
/-
# The body, first stretch: the router columns, the tokens and the routing weights sent
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 11 → ℕ)

/-- The device that runs a body, and words printed beside it. -/
abbrev Words : Type := Σ' (d0 : Dev nD) (v5 : BitVec 32) (v8 : BitVec 32), BitVec 32

/-- A weakest precondition on device `c`'s TensorCore. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- All of a memref at contents `X`, at share `q`. -/
abbrev at' (c : Dev nD) {s : Shape} {e : EltTy} (M : Memref sig .tc .vmem s e) (q : PosShare TreeShare) (X : Buf (Elt F) (M.view.loc (c : Thread nD τ))) : sProp 𝕄 :=
  iprop(M.view.loc (c : Thread nD τ) ↦[M.view.set]{q} X)

theorem whole_sub (b : Ref sig .tc) (S : Finset b.ty.Idx) : S ⊆ (Memref.whole b).view.set := by
  show S ⊆ (View.whole b).set
  rw [View.set_whole]; exact Finset.subset_univ _

/-- A landed whole buffer is at what was sent. -/
theorem landed_x (c : Dev nD) (X : Vec F S256x512 .bf16) : (heldAt c xR X) ⊢ (at' c xR fullShare X : sProp 𝕄) := by
  unfold heldAt
  iintro ⟨%f, %hf, H⟩
  rw [show f = X from hf]
  iexact H
theorem landed_r (c : Dev nD) (X : Vec F S2x512 .f32) : (heldAt c rR X) ⊢ (at' c rR fullShare X : sProp 𝕄) := by
  unfold heldAt
  iintro ⟨%f, %hf, H⟩
  rw [show f = X from hf]
  iexact H
theorem landed_w (c : Dev nD) (X : Vec F S2x256 .f32) : (heldAt c wR X) ⊢ (at' c wR fullShare X : sProp 𝕄) := by
  unfold heldAt
  iintro ⟨%f, %hf, H⟩
  rw [show f = X from hf]
  iexact H

/-- The sent tokens, in two half shares and back. -/
theorem x_split (c : Dev nD) (X : Vec F S256x512 .bf16) :
    (at' c xS fullShare X : sProp 𝕄) ⊢ iprop(at' c xS fullShare.left X ∗ at' c xS fullShare.right X) :=
  (pointsTo_share (PosShare.mem_left_op_right fullShare)).1
theorem x_join (c : Dev nD) (X : Vec F S256x512 .bf16) :
    iprop(at' c xS fullShare.left X ∗ at' c xS fullShare.right X) ⊢ (at' c xS fullShare X : sProp 𝕄) :=
  (pointsTo_share (PosShare.mem_left_op_right fullShare)).2

/-! Loads and stores of whole buffers, as the program writes them. -/

abbrev r256x512 : Rect S256x512 := Rect.unit (s := S256x512) ![0, 0] S256x512.size inb_S256x512_S256x512_0_0
abbrev r512x2 : Rect S512x2 := Rect.unit (s := S512x2) ![0, 0] S512x2.size inb_S512x2_S512x2_0_0
abbrev r2x512 : Rect S2x512 := Rect.unit (s := S2x512) ![0, 0] S2x512.size inb_S2x512_S2x512_0_0
abbrev r2x256 : Rect S2x256 := Rect.unit (s := S2x256) ![0, 0] S2x256.size inb_S2x256_S2x256_0_0
abbrev r2x512x1024 : Rect S2x512x1024 := Rect.unit (s := S2x512x1024) ![0, 0, 0] S2x512x1024.size inb_S2x512x1024_S2x512x1024_0_0_0
abbrev r2x1024x512 : Rect S2x1024x512 := Rect.unit (s := S2x1024x512) ![0, 0, 0] S2x1024x512.size inb_S2x1024x512_S2x1024x512_0_0_0

theorem ld_x (f : Vec F S256x512 .f32) : xM.view.readAt (Elt F) r256x512.toLoadRect f = f := Memref.readAt_unit_zero (Elt F) cc0_stg0_0 zero2 _ f
theorem ld_r (f : Vec F S512x2 .f32) : rM.view.readAt (Elt F) r512x2.toLoadRect f = f := Memref.readAt_unit_zero (Elt F) cc0_stg1_0 zero2 _ f
theorem ld_xs (f : Vec F S256x512 .bf16) : xS.view.readAt (Elt F) r256x512.toLoadRect f = f := Memref.readAt_unit_zero (Elt F) cc0_scratch0 zero2 _ f
theorem st_xs (f w : Vec F S256x512 .bf16) : (xS.access r256x512).write (Elt F) f w Finset.univ = w := Memref.write_access_unit_zero_univ (Elt F) cc0_scratch0 zero2 _ f w
theorem ld_rs (f : Vec F S2x512 .f32) : rS.view.readAt (Elt F) r2x512.toLoadRect f = f := Memref.readAt_unit_zero (Elt F) cc0_scratch2 zero2 _ f
theorem st_rs (f w : Vec F S2x512 .f32) : (rS.access r2x512).write (Elt F) f w Finset.univ = w := Memref.write_access_unit_zero_univ (Elt F) cc0_scratch2 zero2 _ f w
theorem ld_rr (f : Vec F S2x512 .f32) : rR.view.readAt (Elt F) r2x512.toLoadRect f = f := Memref.readAt_unit_zero (Elt F) cc0_scratch3 zero2 _ f
theorem ld_ws (f : Vec F S2x256 .f32) : wS.view.readAt (Elt F) r2x256.toLoadRect f = f := Memref.readAt_unit_zero (Elt F) cc0_scratch4 zero2 _ f
theorem st_ws (f w : Vec F S2x256 .f32) : (wS.access r2x256).write (Elt F) f w Finset.univ = w := Memref.write_access_unit_zero_univ (Elt F) cc0_scratch4 zero2 _ f w

def part1 : Prog (TpuEff nD τ sig (Elt F) Λ₀ .tc) Words :=
  k0_part1 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11
def part2 (d0 : Dev nD) (v5 v8 v9 : BitVec 32) : Prog (TpuEff nD τ sig (Elt F) Λ₀ .tc) (Σ' (v53 : FVec F S256x2 .f32), FVec F S256x2 .f32) :=
  k0_part2 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 d0 v5 v8 v9
def part3 (d0 : Dev nD) (v5 v8 v9 : BitVec 32) (v53 v63 : FVec F S256x2 .f32) : Prog (TpuEff nD τ sig (Elt F) Λ₀ .tc) (FVec F S256x4 .f32) :=
  k0_part3 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 d0 v5 v8 v9 v53 v63

set_option maxHeartbeats 800000 in
/-- The handshake, and the router columns laid out for sending. -/
theorem run_part1 (c : Dev nD) (W : Waits sig Unit) (Kt : Words → sProp 𝕄) :
    iprop(records m ρ K ∗ levAts L lv ∗ cred (tallyAt (kcell c 0) () (amt 0)) ∗ owes (c : Thread nD τ) (owe c [0, 2, 1, 3, 4, 5]) W
        ∗ atPos EX (kcell c 0) 0 ∅ 0 ∗ dutyTok EX (kcell (peer c) 0) 0 ()
        ∗ (held c xR ∗ held c rR ∗ held c wR ∗ held c pRlo ∗ held c pRhi)
        ∗ at' c rM fullShare (rin m ρ c) ∗ held c rS
        ∗ (∀ v5 v8 v9, (owes (c : Thread nD τ) (owe c [2, 1, 3, 4, 5]) (insert (csem 0, ()) W) ∗ atPos EX (kcell c 0) 1 ∅ 0
            ∗ (held (peer c) xR ∗ held (peer c) rR ∗ held (peer c) wR ∗ held (peer c) pRlo ∗ held (peer c) pRhi)
            ∗ at' c rM fullShare (rin m ρ c) ∗ at' c rS fullShare (rT m ρ c)) -∗ Kt ⟨c, v5, v8, v9⟩))
      ⊢ run c part1 Kt := by
  unfold run part1
  simp only [k0_part1_eq_skeleton]; unfold k0_part1_skel
  simp only [semSignalWord, semWaitWord, Prog.lift, Prog.bind_op, Prog.bind_ret, Prog.pure_eq_ret, wp_deviceId]
  unfold held
  iintro ⟨#HR, #Hlev, Hc, HO, Hat, Ht, Hb, Hr, ⟨%f, HrS⟩, Hk⟩
  iapply (signal_peer m ρ K c _ (dev1_eq c) [2, 1, 3, 4, 5] _ (by decide) W) $$ [HO Ht Hb]
  · isplitr; · iexact HR
    isplitl [HO]; · iexact HO
    isplitl [Ht]; · iexact Ht
    unfold held; iexact Hb
  iintro HO
  iapply (wait_cell m ρ K c 0 [2, 1, 3, 4, 5] (by decide) (by decide) (wpE_semWait_eq 𝒱₀ (c : Thread nD τ) none Set.univ) W) $$ [Hc HO Hat]
  · isplitr; · iexact HR
    isplitr; · iexact Hlev
    isplitl [Hc]; · iexact Hc
    isplitl [HO]; · iexact HO
    iexact Hat
  iintro ⟨HO, Hat, Hpay⟩
  iapply (wp_load 𝒱₀ (c : Thread nD τ) none Set.univ (m := rM) (whole_sub cc0_stg1_0 _)) $$ Hr; iintro Hr
  rw [ld_r]
  iapply (wp_load 𝒱₀ (c : Thread nD τ) none Set.univ (m := rS) (whole_sub cc0_scratch2 _)) $$ HrS; iintro HrS
  iapply (wp_store 𝒱₀ (c : Thread nD τ) none Set.univ (m := rS) (r := r2x512) (Mk := Finset.univ) (whole_sub cc0_scratch2 _)) $$ HrS; iintro HrS
  rw [st_rs, wp_ret]; imodintro
  iapply Hk
  isplitl [HO]; · iexact HO
  isplitl [Hat]; · iexact Hat
  isplitl [Hpay]; · unfold pay; dsimp only; unfold held; iexact Hpay
  isplitl [Hr]; · iexact Hr
  unfold rT; iexact HrS

set_option maxHeartbeats 1600000 in
/-- The router columns and the tokens are sent; the peer's router columns arrive; the gates. -/
theorem run_part2 (c : Dev nD) (v5 v8 v9 : BitVec 32) (W : Waits sig Unit) (Kt : (Σ' (v53 : FVec F S256x2 .f32), FVec F S256x2 .f32) → sProp 𝕄) :
    iprop(records m ρ K ∗ levAts L lv ∗ cred (tallyAt (kcell c 2) () (amt 2)) ∗ owes (c : Thread nD τ) (owe c [2, 1, 3, 4, 5]) W
        ∗ atPos EX (kcell c 2) 0 ∅ 0
        ∗ (dutyTok EX (kcell c 7) 0 () ∗ dutyTok EX (kcell (peer c) 2) 0 () ∗ dutyTok EX (kcell c 6) 0 () ∗ dutyTok EX (kcell (peer c) 1) 0 ())
        ∗ held (peer c) xR ∗ held (peer c) rR
        ∗ at' c xM fullShare (xin m ρ c) ∗ at' c rM fullShare (rin m ρ c) ∗ at' c rS fullShare (rT m ρ c) ∗ held c xS
        ∗ ((owes (c : Thread nD τ) (owe c [3, 4, 5]) (insert (csem 2, ()) W) ∗ atPos EX (kcell c 2) 1 ∅ 0
            ∗ (cred (tallyAt (kcell c 7) () (amt 7)) ∗ cred (tallyAt (kcell c 6) () (amt 6)))
            ∗ at' c xM fullShare (xin m ρ c) ∗ at' c rM fullShare (rin m ρ c) ∗ at' c xS fullShare.right (xb m ρ c)
            ∗ at' c rR fullShare (rT m ρ (peer c))) -∗ Kt ⟨gOwn m ρ c, gPeer m ρ c⟩))
      ⊢ run c (part2 c v5 v8 v9) Kt := by
  unfold run part2
  simp only [k0_part2_eq_skeleton]; unfold k0_part2_skel
  simp only [Prog.lift, Prog.bind_op, Prog.bind_ret, Prog.pure_eq_ret]
  iintro ⟨#HR, #Hlev, Hc, HO, Hat, ⟨Ht7, Htr, Ht6, Htx⟩, HxRp, HrRp, Hx, Hr, HrS, HxS, Hk⟩
  iapply (send_peer m ρ K c _ (dev2_eq c) 7 2 rS rR fullShare (rT m ρ c) rfl rfl (rT m ρ c) rfl
      (by unfold pay; dsimp only; unfold held; iintro H; iexists _; iexact H)
      (by unfold pay; dsimp only; rw [peer_peer])
      [1, 3, 4, 5] (s5 cc0_scratch10 1) (s5 cc0_scratch11 1) rfl rfl W) $$ [HrS HrRp HO Ht7 Htr]
  · isplitr; · iexact HR
    isplitl [HrS]; · iexact HrS
    isplitl [HrRp]; · iexact HrRp
    isplitl [HO]; · iexact HO
    isplitl [Ht7]; · iexact Ht7
    iexact Htr
  iintro ⟨Hc7, HO⟩
  iapply (wp_load 𝒱₀ (c : Thread nD τ) none Set.univ (m := xM) (whole_sub cc0_stg0_0 _)) $$ Hx; iintro Hx
  rw [ld_x]
  unfold held
  icases HxS with ⟨%f, HxS⟩
  iapply (wp_load 𝒱₀ (c : Thread nD τ) none Set.univ (m := xS) (whole_sub cc0_scratch0 _)) $$ HxS; iintro HxS
  iapply (wp_store 𝒱₀ (c : Thread nD τ) none Set.univ (m := xS) (r := r256x512) (Mk := Finset.univ) (whole_sub cc0_scratch0 _)) $$ HxS; iintro HxS
  rw [st_xs]
  ihave HxS2 := (x_split c (k0_pay2 (xin m ρ c))) $$ HxS
  icases HxS2 with ⟨HxL, HxS⟩
  iapply (send_peer m ρ K c _ (dev3_eq c) 6 1 xS xR fullShare.left (xb m ρ c) rfl rfl (xb m ρ c) rfl
      (by unfold pay; dsimp only; unfold xPts; exact BI.Entails.refl _)
      (by unfold pay; dsimp only; rw [peer_peer])
      [3, 4, 5] (s5 cc0_scratch10 0) (s5 cc0_scratch11 0) rfl rfl W) $$ [HxL HxRp HO Ht6 Htx]
  · isplitr; · iexact HR
    isplitl [HxL]; · iexact HxL
    isplitl [HxRp]; · unfold held; iexact HxRp
    isplitl [HO]; · iexact HO
    isplitl [Ht6]; · iexact Ht6
    iexact Htx
  iintro ⟨Hc6, HO⟩
  iapply (wp_load 𝒱₀ (c : Thread nD τ) none Set.univ (m := xM) (whole_sub cc0_stg0_0 _)) $$ Hx; iintro Hx
  rw [ld_x]
  iapply (wp_load 𝒱₀ (c : Thread nD τ) none Set.univ (m := rM) (whole_sub cc0_stg1_0 _)) $$ Hr; iintro Hr
  rw [ld_r]
  iapply (wait_cell m ρ K c 2 [3, 4, 5] (by decide) rfl (wpE_waitDma2_eq 𝒱₀ (c : Thread nD τ) none Set.univ) W) $$ [Hc HO Hat]
  · isplitr; · iexact HR
    isplitr; · iexact Hlev
    isplitl [Hc]; · iexact Hc
    isplitl [HO]; · iexact HO
    iexact Hat
  iintro ⟨HO, Hat, Hpay⟩
  ihave HrR := (show pay m ρ c 2 ⊢ at' c rR fullShare (rT m ρ (peer c)) from landed_r c (rT m ρ (peer c))) $$ Hpay
  iapply (wp_load 𝒱₀ (c : Thread nD τ) none Set.univ (m := rR) (whole_sub cc0_scratch3 _)) $$ HrR; iintro HrR
  rw [ld_rr, wp_ret]; imodintro
  unfold gOwn gPeer
  iapply Hk
  isplitl [HO]; · iexact HO
  isplitl [Hat]; · iexact Hat
  isplitl [Hc7 Hc6]
  · isplitl [Hc7]; · iexact Hc7
    iexact Hc6
  isplitl [Hx]; · iexact Hx
  isplitl [Hr]; · iexact Hr
  isplitl [HxS]; · iexact HxS
  iexact HrR

set_option maxHeartbeats 800000 in
/-- The routing weights of the peer's experts are sent. -/
theorem run_part3 (c : Dev nD) (v5 v8 v9 : BitVec 32) (W : Waits sig Unit) (Kt : FVec F S256x4 .f32 → sProp 𝕄) :
    iprop(records m ρ K ∗ owes (c : Thread nD τ) (owe c [3, 4, 5]) W
        ∗ (dutyTok EX (kcell c 8) 0 () ∗ dutyTok EX (kcell (peer c) 3) 0 ())
        ∗ held (peer c) wR ∗ held c wS
        ∗ ((owes (c : Thread nD τ) (owe c [4, 5]) W ∗ cred (tallyAt (kcell c 8) () (amt 8))) -∗ Kt (w4 m ρ c)))
      ⊢ run c (part3 c v5 v8 v9 (gOwn m ρ c) (gPeer m ρ c)) Kt := by
  unfold run part3
  simp only [k0_part3_eq_skeleton]; unfold k0_part3_skel
  simp only [Prog.lift, Prog.bind_op, Prog.bind_ret, Prog.pure_eq_ret]
  iintro ⟨#HR, HO, ⟨Ht8, Htw⟩, HwRp, HwS, Hk⟩
  unfold held
  icases HwS with ⟨%f, HwS⟩
  iapply (wp_load 𝒱₀ (c : Thread nD τ) none Set.univ (m := wS) (whole_sub cc0_scratch4 _)) $$ HwS; iintro HwS
  iapply (wp_store 𝒱₀ (c : Thread nD τ) none Set.univ (m := wS) (r := r2x256) (Mk := Finset.univ) (whole_sub cc0_scratch4 _)) $$ HwS; iintro HwS
  rw [st_ws]
  iapply (send_peer m ρ K c _ (dev4_eq c) 8 3 wS wR fullShare (wT m ρ c) rfl rfl (wT m ρ c) rfl
      (by unfold pay; dsimp only; unfold held; iintro H; iexists _; iexact H)
      (by unfold pay; dsimp only; rw [peer_peer])
      [4, 5] (s5 cc0_scratch10 2) (s5 cc0_scratch11 2) rfl rfl W) $$ [HwS HwRp HO Ht8 Htw]
  · isplitr; · iexact HR
    isplitl [HwS]; · iexact HwS
    isplitl [HwRp]; · unfold held; iexact HwRp
    isplitl [HO]; · iexact HO
    isplitl [Ht8]; · iexact Ht8
    iexact Htw
  iintro ⟨Hc8, HO⟩
  rw [wp_ret]; imodintro
  unfold w4
  iapply Hk
  isplitl [HO]; · iexact HO
  iexact Hc8

end Cert.Moe

end
-- ==== Proof.RunB.lean ====
/-
# The body, second stretch: the expert matrices, the partial sums for the peer and the device's own
-/
module

public import proofs.«01_k».proof.Proof.RunA

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 11 → ℕ)

def part4 (v5 v8 v9 : BitVec 32) : Prog (TpuEff nD τ sig (Elt F) Λ₀ .tc) (FVec F S256x2 .f32) :=
  k0_part4 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 v5 v8 v9
def part5 (v9 : BitVec 32) (v136 : FVec F S256x2 .f32) : Prog (TpuEff nD τ sig (Elt F) Λ₀ .tc) (BitVec 32) :=
  k0_part5 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 v9 v136
def part6 (d0 : Dev nD) (v5 v8 : BitVec 32) (v136 : FVec F S256x2 .f32) (v169 : BitVec 32) :
    Prog (TpuEff nD τ sig (Elt F) Λ₀ .tc) (Σ' (v181 : FVec F S128x2 .f32) (v193 : FVec F S128x512 .f32), FVec F S128x512 .f32) :=
  k0_part6 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 d0 v5 v8 v136 v169
def part7 (d0 : Dev nD) (v5 v8 v9 : BitVec 32) (v91 : FVec F S256x4 .f32) (v181 : FVec F S128x2 .f32) (v193 v202 : FVec F S128x512 .f32) :
    Prog (TpuEff nD τ sig (Elt F) Λ₀ .tc) (Σ' (v223 : Vec F S256x512 .bf16) (v224 : FVec F S256x2 .f32), FVec F S256x512 .f32) :=
  k0_part7 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 d0 v5 v8 v9 v91 v181 v193 v202

theorem ld_u (f : Vec F S2x512x1024 .f32) : uM.view.readAt (Elt F) r2x512x1024.toLoadRect f = f := Memref.readAt_unit_zero (Elt F) cc0_stg2_0 zero3 _ f
theorem ld_v (f : Vec F S2x1024x512 .f32) : vM.view.readAt (Elt F) r2x1024x512.toLoadRect f = f := Memref.readAt_unit_zero (Elt F) cc0_stg3_0 zero3 _ f
theorem ld_wr (f : Vec F S2x256 .f32) : wR.view.readAt (Elt F) r2x256.toLoadRect f = f := Memref.readAt_unit_zero (Elt F) cc0_scratch5 zero2 _ f
theorem st_ub (f w : Vec F S2x512x1024 .bf16) : (uB.access r2x512x1024).write (Elt F) f w Finset.univ = w := Memref.write_access_unit_zero_univ (Elt F) cc0_scratch8 zero3 _ f w
theorem st_vb (f w : Vec F S2x1024x512 .bf16) : (vB.access r2x1024x512).write (Elt F) f w Finset.univ = w := Memref.write_access_unit_zero_univ (Elt F) cc0_scratch9 zero3 _ f w

/-- The elements a load or a store of a half touches are the half's. -/
theorem half_sub {e : EltTy} (M : Memref sig .tc .vmem S256x512 e) (r : Rect S256x512) (h : ∀ a, r.stride a = 1) :
    (M.access r).set ⊆ (M.slice r h).view.set := fun _ h => h
theorem half_sub' {e : EltTy} (M : Memref sig .tc .vmem S256x512 e) (r : Rect S256x512) (h : ∀ a, r.stride a = 1) :
    (M.access r).setOn Finset.univ ⊆ (M.slice r h).view.set := fun _ h => h

set_option maxHeartbeats 1600000 in
/-- The expert matrices in the compute format; the peer's tokens and weights arrive. -/
theorem run_part4 (c : Dev nD) (v5 v8 v9 : BitVec 32) (W : Waits sig Unit) (Kt : FVec F S256x2 .f32 → sProp 𝕄) :
    iprop(records m ρ K ∗ levAts L lv ∗ (cred (tallyAt (kcell c 1) () (amt 1)) ∗ cred (tallyAt (kcell c 3) () (amt 3)))
        ∗ owes (c : Thread nD τ) (owe c [4, 5]) W ∗ (atPos EX (kcell c 1) 0 ∅ 0 ∗ atPos EX (kcell c 3) 0 ∅ 0)
        ∗ at' c uM fullShare (uin m ρ c) ∗ at' c vM fullShare (vin m ρ c) ∗ held c uB ∗ held c vB
        ∗ ((owes (c : Thread nD τ) (owe c [4, 5]) (insert (csem 3, ()) (insert (csem 1, ()) W))
            ∗ (atPos EX (kcell c 1) 1 ∅ 0 ∗ atPos EX (kcell c 3) 1 ∅ 0)
            ∗ at' c uM fullShare (uin m ρ c) ∗ at' c vM fullShare (vin m ρ c)
            ∗ at' c uB fullShare (ub m ρ c) ∗ at' c vB fullShare (vb m ρ c)
            ∗ at' c xR fullShare (xb m ρ (peer c)) ∗ at' c wR fullShare (wT m ρ (peer c))) -∗ Kt (wIn m ρ c)))
      ⊢ run c (part4 v5 v8 v9) Kt := by
  unfold run part4
  simp only [k0_part4_eq_skeleton]; unfold k0_part4_skel
  simp only [Prog.lift, Prog.bind_op, Prog.bind_ret, Prog.pure_eq_ret]
  iintro ⟨#HR, #Hlev, ⟨Hc1, Hc3⟩, HO, ⟨Hat1, Hat3⟩, Hu, Hv, HuB, HvB, Hk⟩
  unfold held
  icases HuB with ⟨%fu, HuB⟩
  icases HvB with ⟨%fv, HvB⟩
  iapply (wp_load 𝒱₀ (c : Thread nD τ) none Set.univ (m := uM) (whole_sub cc0_stg2_0 _)) $$ Hu; iintro Hu
  rw [ld_u]
  iapply (wp_load 𝒱₀ (c : Thread nD τ) none Set.univ (m := uB) (whole_sub cc0_scratch8 _)) $$ HuB; iintro HuB
  iapply (wp_store 𝒱₀ (c : Thread nD τ) none Set.univ (m := uB) (r := r2x512x1024) (Mk := Finset.univ) (whole_sub cc0_scratch8 _)) $$ HuB; iintro HuB
  rw [st_ub]
  iapply (wp_load 𝒱₀ (c : Thread nD τ) none Set.univ (m := vM) (whole_sub cc0_stg3_0 _)) $$ Hv; iintro Hv
  rw [ld_v]
  iapply (wp_load 𝒱₀ (c : Thread nD τ) none Set.univ (m := vB) (whole_sub cc0_scratch9 _)) $$ HvB; iintro HvB
  iapply (wp_store 𝒱₀ (c : Thread nD τ) none Set.univ (m := vB) (r := r2x1024x512) (Mk := Finset.univ) (whole_sub cc0_scratch9 _)) $$ HvB; iintro HvB
  rw [st_vb]
  iapply (wait_cell m ρ K c 1 [4, 5] (by decide) rfl (wpE_waitDma2_eq 𝒱₀ (c : Thread nD τ) none Set.univ) W) $$ [Hc1 HO Hat1]
  · isplitr; · iexact HR
    isplitr; · iexact Hlev
    isplitl [Hc1]; · iexact Hc1
    isplitl [HO]; · iexact HO
    iexact Hat1
  iintro ⟨HO, Hat1, Hpay⟩
  ihave HxR := (show pay m ρ c 1 ⊢ at' c xR fullShare (xb m ρ (peer c)) from landed_x c (xb m ρ (peer c))) $$ Hpay
  iapply (wait_cell m ρ K c 3 [4, 5] (by decide) rfl (wpE_waitDma2_eq 𝒱₀ (c : Thread nD τ) none Set.univ) _) $$ [Hc3 HO Hat3]
  · isplitr; · iexact HR
    isplitr; · iexact Hlev
    isplitl [Hc3]; · iexact Hc3
    isplitl [HO]; · iexact HO
    iexact Hat3
  iintro ⟨HO, Hat3, Hpay⟩
  ihave HwR := (show pay m ρ c 3 ⊢ at' c wR fullShare (wT m ρ (peer c)) from landed_w c (wT m ρ (peer c))) $$ Hpay
  iapply (wp_load 𝒱₀ (c : Thread nD τ) none Set.univ (m := wR) (whole_sub cc0_scratch5 _)) $$ HwR; iintro HwR
  rw [ld_wr, wp_ret]; imodintro
  unfold ub vb wIn
  iapply Hk
  isplitl [HO]; · iexact HO
  isplitl [Hat1 Hat3]
  · isplitl [Hat1]; · iexact Hat1
    iexact Hat3
  isplitl [Hu]; · iexact Hu
  isplitl [Hv]; · iexact Hv
  isplitl [HuB]; · iexact HuB
  isplitl [HvB]; · iexact HvB
  isplitl [HxR]; · iexact HxR
  iexact HwR

set_option maxHeartbeats 1600000 in
/-- The first half of the peer's partial sum. -/
theorem run_part5 (c : Dev nD) (v9 : BitVec 32) (Kt : BitVec 32 → sProp 𝕄) :
    iprop(at' c xR fullShare (xb m ρ (peer c)) ∗ at' c uB fullShare (ub m ρ c) ∗ at' c vB fullShare (vb m ρ c) ∗ held c pSlo
        ∗ (∀ v, (at' c xR fullShare (xb m ρ (peer c)) ∗ at' c uB fullShare (ub m ρ c) ∗ at' c vB fullShare (vb m ρ c)
            ∗ heldAt c pSlo (pLo m ρ c)) -∗ Kt v))
      ⊢ run c (part5 v9 (wIn m ρ c)) Kt := by
  unfold run part5
  simp only [k0_part5_eq_skeleton]; unfold k0_part5_skel
  simp only [Prog.lift, Prog.bind_op, Prog.bind_ret, Prog.pure_eq_ret]
  iintro ⟨HxR, HuB, HvB, HpS, Hk⟩
  unfold held
  icases HpS with ⟨%fp, HpS⟩
  iapply (wp_load 𝒱₀ (c : Thread nD τ) none Set.univ (m := xR) (whole_sub cc0_scratch1 _)) $$ HxR; iintro HxR
  iapply (wp_load 𝒱₀ (c : Thread nD τ) none Set.univ (m := uB) (whole_sub cc0_scratch8 _)) $$ HuB; iintro HuB
  iapply (wp_load 𝒱₀ (c : Thread nD τ) none Set.univ (m := vB) (whole_sub cc0_scratch9 _)) $$ HvB; iintro HvB
  iapply (wp_load 𝒱₀ (c : Thread nD τ) none Set.univ (m := uB) (whole_sub cc0_scratch8 _)) $$ HuB; iintro HuB
  iapply (wp_load 𝒱₀ (c : Thread nD τ) none Set.univ (m := vB) (whole_sub cc0_scratch9 _)) $$ HvB; iintro HvB
  iapply (wp_load_rect 𝒱₀ (c : Thread nD τ) none Set.univ (m := pS) (half_sub pS rLo _)) $$ HpS; iintro HpS
  iapply (wp_store 𝒱₀ (c : Thread nD τ) none Set.univ (m := pS) (r := rLo) (Mk := Finset.univ) (half_sub' pS rLo _)) $$ HpS; iintro HpS
  rw [wp_ret]; imodintro
  iapply Hk
  isplitl [HxR]; · iexact HxR
  isplitl [HuB]; · iexact HuB
  isplitl [HvB]; · iexact HvB
  unfold heldAt
  iexists _
  isplitr
  · ipureintro; exact View.read_write_univ (v := pSlo.view) fp _
  iexact HpS

set_option maxHeartbeats 1600000 in
/-- The first half is sent; the second half's summands. -/
theorem run_part6 (c : Dev nD) (v5 v8 v169 : BitVec 32) (W : Waits sig Unit)
    (Kt : (Σ' (v181 : FVec F S128x2 .f32) (v193 : FVec F S128x512 .f32), FVec F S128x512 .f32) → sProp 𝕄) :
    iprop(records m ρ K ∗ owes (c : Thread nD τ) (owe c [4, 5]) W
        ∗ (dutyTok EX (kcell c 9) 0 () ∗ dutyTok EX (kcell (peer c) 4) 0 ()) ∗ held (peer c) pRlo ∗ heldAt c pSlo (pLo m ρ c)
        ∗ at' c xR fullShare (xb m ρ (peer c)) ∗ at' c uB fullShare (ub m ρ c) ∗ at' c vB fullShare (vb m ρ c)
        ∗ ((owes (c : Thread nD τ) (owe c [5]) W ∗ cred (tallyAt (kcell c 9) () (amt 9))
            ∗ at' c xR fullShare (xb m ρ (peer c)) ∗ at' c uB fullShare (ub m ρ c) ∗ at' c vB fullShare (vb m ρ c))
          -∗ Kt ⟨k0_pay12 (wIn m ρ c), k0_pay13 (wIn m ρ c) (hiH (xb m ρ (peer c))) (ex1 (ub m ρ c) 0) (ex2 (vb m ρ c) 0),
                  k0_pay14 (hiH (xb m ρ (peer c))) (ex1 (ub m ρ c) 1) (ex2 (vb m ρ c) 1)⟩))
      ⊢ run c (part6 c v5 v8 (wIn m ρ c) v169) Kt := by
  unfold run part6
  simp only [k0_part6_eq_skeleton]; unfold k0_part6_skel
  simp only [Prog.lift, Prog.bind_op, Prog.bind_ret, Prog.pure_eq_ret]
  iintro ⟨#HR, HO, ⟨Ht9, Htp⟩, HpRp, HpS, HxR, HuB, HvB, Hk⟩
  unfold heldAt
  icases HpS with ⟨%fs, %hfs, HpS⟩
  iapply (send_peer m ρ K c _ (dev5_eq c) 9 4 pSlo pRlo fullShare (pLo m ρ c) rfl rfl fs hfs
      (by unfold pay; dsimp only; unfold held; iintro H; iexists _; iexact H)
      (by unfold pay; dsimp only; rw [peer_peer])
      [5] (s5 cc0_scratch10 3) (s5 cc0_scratch11 3) rfl rfl W) $$ [HpS HpRp HO Ht9 Htp]
  · isplitr; · iexact HR
    isplitl [HpS]; · iexact HpS
    isplitl [HpRp]; · iexact HpRp
    isplitl [HO]; · iexact HO
    isplitl [Ht9]; · iexact Ht9
    iexact Htp
  iintro ⟨Hc9, HO⟩
  iapply (wp_load 𝒱₀ (c : Thread nD τ) none Set.univ (m := xR) (whole_sub cc0_scratch1 _)) $$ HxR; iintro HxR
  iapply (wp_load 𝒱₀ (c : Thread nD τ) none Set.univ (m := uB) (whole_sub cc0_scratch8 _)) $$ HuB; iintro HuB
  iapply (wp_load 𝒱₀ (c : Thread nD τ) none Set.univ (m := vB) (whole_sub cc0_scratch9 _)) $$ HvB; iintro HvB
  iapply (wp_load 𝒱₀ (c : Thread nD τ) none Set.univ (m := uB) (whole_sub cc0_scratch8 _)) $$ HuB; iintro HuB
  iapply (wp_load 𝒱₀ (c : Thread nD τ) none Set.univ (m := vB) (whole_sub cc0_scratch9 _)) $$ HvB; iintro HvB
  rw [wp_ret]; imodintro
  unfold hiH ex1 ex2; dsimp only
  iapply Hk
  isplitl [HO]; · iexact HO
  isplitl [Hc9]; · iexact Hc9
  isplitl [HxR]; · iexact HxR
  isplitl [HuB]; · iexact HuB
  iexact HvB

set_option maxHeartbeats 1600000 in
/-- The second half is sent; the device's own partial sum, the sent tokens loaded while they are in flight. -/
theorem run_part7 (c : Dev nD) (v5 v8 v9 : BitVec 32) (W : Waits sig Unit)
    (Kt : (Σ' (v223 : Vec F S256x512 .bf16) (v224 : FVec F S256x2 .f32), FVec F S256x512 .f32) → sProp 𝕄) :
    iprop(records m ρ K ∗ owes (c : Thread nD τ) (owe c [5]) W
        ∗ (dutyTok EX (kcell c 10) 0 () ∗ dutyTok EX (kcell (peer c) 5) 0 ()) ∗ held (peer c) pRhi ∗ held c pShi
        ∗ at' c xS fullShare.right (xb m ρ c) ∗ at' c uB fullShare (ub m ρ c) ∗ at' c vB fullShare (vb m ρ c)
        ∗ ((owes (c : Thread nD τ) (owe c []) W ∗ cred (tallyAt (kcell c 10) () (amt 10))
            ∗ at' c xS fullShare.right (xb m ρ c) ∗ at' c uB fullShare (ub m ρ c) ∗ at' c vB fullShare (vb m ρ c))
          -∗ Kt ⟨xb m ρ c, k0_pay16 (w4 m ρ c), own0 m ρ c⟩))
      ⊢ run c (part7 c v5 v8 v9 (w4 m ρ c) (k0_pay12 (wIn m ρ c))
          (k0_pay13 (wIn m ρ c) (hiH (xb m ρ (peer c))) (ex1 (ub m ρ c) 0) (ex2 (vb m ρ c) 0))
          (k0_pay14 (hiH (xb m ρ (peer c))) (ex1 (ub m ρ c) 1) (ex2 (vb m ρ c) 1))) Kt := by
  unfold run part7
  simp only [k0_part7_eq_skeleton]; unfold k0_part7_skel
  simp only [Prog.lift, Prog.bind_op, Prog.bind_ret, Prog.pure_eq_ret]
  iintro ⟨#HR, HO, ⟨Ht10, Htp⟩, HpRp, HpS, HxS, HuB, HvB, Hk⟩
  unfold held
  icases HpS with ⟨%fp, HpS⟩
  iapply (wp_load_rect 𝒱₀ (c : Thread nD τ) none Set.univ (m := pS) (half_sub pS rHi _)) $$ HpS; iintro HpS
  iapply (wp_store 𝒱₀ (c : Thread nD τ) none Set.univ (m := pS) (r := rHi) (Mk := Finset.univ) (half_sub' pS rHi _)) $$ HpS; iintro HpS
  iapply (send_peer m ρ K c _ (dev6_eq c) 10 5 pShi pRhi fullShare (pHi m ρ c) rfl rfl _ (View.read_write_univ (v := pShi.view) fp _)
      (by unfold pay; dsimp only; unfold held; iintro H; iexists _; iexact H)
      (by unfold pay; dsimp only; rw [peer_peer])
      [] (s5 cc0_scratch10 4) (s5 cc0_scratch11 4) rfl rfl W) $$ [HpS HpRp HO Ht10 Htp]
  · isplitr; · iexact HR
    isplitl [HpS]; · iexact HpS
    isplitl [HpRp]; · unfold held; iexact HpRp
    isplitl [HO]; · iexact HO
    isplitl [Ht10]; · iexact Ht10
    iexact Htp
  iintro ⟨Hc10, HO⟩
  iapply (wp_load 𝒱₀ (c : Thread nD τ) none Set.univ (m := xS) (whole_sub cc0_scratch0 _)) $$ HxS; iintro HxS
  rw [ld_xs]
  iapply (wp_load 𝒱₀ (c : Thread nD τ) none Set.univ (m := uB) (whole_sub cc0_scratch8 _)) $$ HuB; iintro HuB
  iapply (wp_load 𝒱₀ (c : Thread nD τ) none Set.univ (m := vB) (whole_sub cc0_scratch9 _)) $$ HvB; iintro HvB
  rw [wp_ret]; imodintro
  unfold own0 ex1 ex2; dsimp only
  iapply Hk
  isplitl [HO]; · iexact HO
  isplitl [Hc10]; · iexact Hc10
  isplitl [HxS]; · iexact HxS
  isplitl [HuB]; · iexact HuB
  iexact HvB

end Cert.Moe

end
-- ==== Proof.RunC.lean ====
/-
# The body, last stretch: the halves arrive, the result is stored, the sources come back
-/
module

public import proofs.«01_k».proof.Proof.RunB

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 11 → ℕ)

def part8 (v5 v8 v9 : BitVec 32) (v223 : Vec F S256x512 .bf16) (v224 : FVec F S256x2 .f32) (v236 : FVec F S256x512 .f32) :
    Prog (TpuEff nD τ sig (Elt F) Λ₀ .tc) (Σ' (v249 : FVec F S256x512 .f32) (v266 : BitVec 32), BitVec 32) :=
  k0_part8 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 v5 v8 v9 v223 v224 v236
def part9 (v8 : BitVec 32) (v249 : FVec F S256x512 .f32) (v266 v267 : BitVec 32) : Prog (TpuEff nD τ sig (Elt F) Λ₀ .tc) PUnit :=
  k0_part9 xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11 v8 v249 v266 v267

/-- The device's block of the result. -/
def outAt (c : Dev nD) : Vec F S256x512 .f32 :=
  oM.view.writes (Elt F) (xin m ρ c) [⟨rHi, oHi m ρ c⟩, ⟨rLo, oLo m ρ c⟩]

/-- Both halves cover the block. -/
theorem cover_out (c : Dev nD) (y : S256x512.Idx) :
    ∃ p ∈ ([⟨rHi, oHi m ρ c⟩, ⟨rLo, oLo m ρ c⟩] : List (View.Piece (Elt F) S256x512 .f32)), y ∈ p.1.set := by
  have h0 := (y 0).isLt
  have h1 := (y 1).isLt
  by_cases h : (y 0).val < 128
  · refine ⟨⟨rLo, oLo m ρ c⟩, by simp, rLo.mem_set.mpr fun a => ?_⟩
    fin_cases a
    · exact ⟨(y 0).val, h, by simp⟩
    · exact ⟨(y 1).val, h1, by simp⟩
  · refine ⟨⟨rHi, oHi m ρ c⟩, by simp, rHi.mem_set.mpr fun a => ?_⟩
    have h0' : (y 0).val < 256 := h0
    fin_cases a
    · exact ⟨(y 0).val - 128, by show (y 0).val - 128 < 128; omega, by show (y 0).val = 128 + 1 * ((y 0).val - 128); omega⟩
    · exact ⟨(y 1).val, h1, by simp⟩

/-- Both halves stored, what the block held before does not show. -/
theorem writes_out (c : Dev nD) (f : Vec F S256x512 .f32) :
    oM.view.writes (Elt F) f [⟨rHi, oHi m ρ c⟩, ⟨rLo, oLo m ρ c⟩] = outAt m ρ c := by
  have h := oM.view.read_writes_of_cover f oM.view (xin m ρ c) [⟨rHi, oHi m ρ c⟩, ⟨rLo, oLo m ρ c⟩] (cover_out m ρ c)
  simp only [Memref.view_whole, View.read_whole] at h
  exact h

set_option maxHeartbeats 1600000 in
/-- The first half arrives: the first half of the result. -/
theorem run_part8 (c : Dev nD) (v5 v8 v9 : BitVec 32) (W : Waits sig Unit) (f : Vec F S256x512 .f32)
    (Kt : (Σ' (v249 : FVec F S256x512 .f32) (v266 : BitVec 32), BitVec 32) → sProp 𝕄) :
    iprop(records m ρ K ∗ levAts L lv ∗ cred (tallyAt (kcell c 4) () (amt 4)) ∗ owes (c : Thread nD τ) (owe c []) W ∗ atPos EX (kcell c 4) 0 ∅ 0
        ∗ at' c uB fullShare (ub m ρ c) ∗ at' c vB fullShare (vb m ρ c) ∗ at' c oM fullShare f
        ∗ (∀ v266 v267, (owes (c : Thread nD τ) (owe c []) (insert (csem 4, ()) W) ∗ atPos EX (kcell c 4) 1 ∅ 0
            ∗ at' c uB fullShare (ub m ρ c) ∗ at' c vB fullShare (vb m ρ c)
            ∗ at' c oM fullShare (oM.view.writes (Elt F) f [⟨rLo, oLo m ρ c⟩]) ∗ held c pRlo) -∗ Kt ⟨acc m ρ c, v266, v267⟩))
      ⊢ run c (part8 v5 v8 v9 (xb m ρ c) (k0_pay16 (w4 m ρ c)) (own0 m ρ c)) Kt := by
  unfold run part8
  simp only [k0_part8_eq_skeleton]; unfold k0_part8_skel
  simp only [Prog.lift, Prog.bind_op, Prog.bind_ret, Prog.pure_eq_ret]
  iintro ⟨#HR, #Hlev, Hc, HO, Hat, HuB, HvB, Ho, Hk⟩
  iapply (wp_load 𝒱₀ (c : Thread nD τ) none Set.univ (m := uB) (whole_sub cc0_scratch8 _)) $$ HuB; iintro HuB
  iapply (wp_load 𝒱₀ (c : Thread nD τ) none Set.univ (m := vB) (whole_sub cc0_scratch9 _)) $$ HvB; iintro HvB
  iapply (wait_cell m ρ K c 4 [] (by decide) rfl (wpE_waitDma2_eq 𝒱₀ (c : Thread nD τ) none Set.univ) W) $$ [Hc HO Hat]
  · isplitr; · iexact HR
    isplitr; · iexact Hlev
    isplitl [Hc]; · iexact Hc
    isplitl [HO]; · iexact HO
    iexact Hat
  iintro ⟨HO, Hat, Hpay⟩
  ihave HpR := (show pay m ρ c 4 ⊢ heldAt c pRlo (pLo m ρ (peer c)) from BI.Entails.refl _) $$ Hpay
  unfold heldAt
  icases HpR with ⟨%fp, %hfp, HpR⟩
  iapply (wp_load_rect 𝒱₀ (c : Thread nD τ) none Set.univ (m := pR) (r := rLo) (half_sub pR rLo (fun _ => rfl))) $$ HpR; iintro HpR
  rw [show (pR.access rLo).read (Elt F) fp = pLo m ρ (peer c) from hfp]
  iapply (wp_load 𝒱₀ (c : Thread nD τ) none Set.univ (m := oM) (whole_sub cc0_stg4_0 _)) $$ Ho; iintro Ho
  iapply (wp_store_writes₀ 𝒱₀ (c : Thread nD τ) none Set.univ (m := oM) (r := rLo) (whole_sub cc0_stg4_0 _)) $$ Ho; iintro Ho
  rw [wp_ret]; imodintro
  unfold acc oLo ex1 ex2; dsimp only
  iapply Hk
  isplitl [HO]; · iexact HO
  isplitl [Hat]; · iexact Hat
  isplitl [HuB]; · iexact HuB
  isplitl [HvB]; · iexact HvB
  isplitl [Ho]; · iexact Ho
  unfold held; iexists _; iexact HpR

set_option maxHeartbeats 1600000 in
/-- The second half arrives: the result; then the sources of four of the device's transfers come back. -/
theorem run_part9 (c : Dev nD) (v8 v266 v267 : BitVec 32) (W : Waits sig Unit) (f : Vec F S256x512 .f32) (Kt : PUnit → sProp 𝕄) :
    iprop(records m ρ K ∗ levAts L lv
        ∗ (cred (tallyAt (kcell c 5) () (amt 5)) ∗ cred (tallyAt (kcell c 6) () (amt 6)) ∗ cred (tallyAt (kcell c 7) () (amt 7))
          ∗ cred (tallyAt (kcell c 8) () (amt 8)) ∗ cred (tallyAt (kcell c 9) () (amt 9)))
        ∗ owes (c : Thread nD τ) (owe c []) W
        ∗ (atPos EX (kcell c 5) 0 ∅ 0 ∗ atPos EX (kcell c 6) 0 ∅ 0 ∗ atPos EX (kcell c 7) 0 ∅ 0 ∗ atPos EX (kcell c 8) 0 ∅ 0 ∗ atPos EX (kcell c 9) 0 ∅ 0)
        ∗ at' c oM fullShare (oM.view.writes (Elt F) f [⟨rLo, oLo m ρ c⟩])
        ∗ ((owes (c : Thread nD τ) (owe c []) (insert (csem 9, ()) (insert (csem 8, ()) (insert (csem 7, ()) (insert (csem 6, ()) (insert (csem 5, ()) W)))))
            ∗ (atPos EX (kcell c 5) 1 ∅ 0 ∗ atPos EX (kcell c 6) 1 ∅ 0 ∗ atPos EX (kcell c 7) 1 ∅ 0 ∗ atPos EX (kcell c 8) 1 ∅ 0 ∗ atPos EX (kcell c 9) 1 ∅ 0)
            ∗ at' c oM fullShare (outAt m ρ c) ∗ held c pRhi
            ∗ at' c xS fullShare.left (xb m ρ c) ∗ held c rS ∗ held c wS ∗ held c pSlo) -∗ Kt ⟨⟩))
      ⊢ run c (part9 v8 (acc m ρ c) v266 v267) Kt := by
  unfold run part9
  simp only [k0_part9_eq_skeleton]; unfold k0_part9_skel
  simp only [Prog.lift, Prog.bind_op, Prog.bind_ret, Prog.pure_eq_ret]
  iintro ⟨#HR, #Hlev, ⟨Hc5, Hc6, Hc7, Hc8, Hc9⟩, HO, ⟨Hat5, Hat6, Hat7, Hat8, Hat9⟩, Ho, Hk⟩
  iapply (wait_cell m ρ K c 5 [] (by decide) rfl (wpE_waitDma2_eq 𝒱₀ (c : Thread nD τ) none Set.univ) W) $$ [Hc5 HO Hat5]
  · isplitr; · iexact HR
    isplitr; · iexact Hlev
    isplitl [Hc5]; · iexact Hc5
    isplitl [HO]; · iexact HO
    iexact Hat5
  iintro ⟨HO, Hat5, Hpay⟩
  ihave HpR := (show pay m ρ c 5 ⊢ heldAt c pRhi (pHi m ρ (peer c)) from BI.Entails.refl _) $$ Hpay
  unfold heldAt
  icases HpR with ⟨%fp, %hfp, HpR⟩
  iapply (wp_load_rect 𝒱₀ (c : Thread nD τ) none Set.univ (m := pR) (r := rHi) (half_sub pR rHi (fun _ => rfl))) $$ HpR; iintro HpR
  rw [show (pR.access rHi).read (Elt F) fp = pHi m ρ (peer c) from hfp]
  iapply (wp_load 𝒱₀ (c : Thread nD τ) none Set.univ (m := oM) (whole_sub cc0_stg4_0 _)) $$ Ho; iintro Ho
  iapply (wp_store_writes 𝒱₀ (c : Thread nD τ) none Set.univ (m := oM) (r := rHi) (whole_sub cc0_stg4_0 _)) $$ Ho; iintro Ho
  iapply (wait_cell m ρ K c 6 [] (by decide) (show xS.view.dmaCredit = amt 6 from rfl) (wpE_waitDma2_eq 𝒱₀ (c : Thread nD τ) none Set.univ) _) $$ [Hc6 HO Hat6]
  · isplitr; · iexact HR
    isplitr; · iexact Hlev
    isplitl [Hc6]; · iexact Hc6
    isplitl [HO]; · iexact HO
    iexact Hat6
  iintro ⟨HO, Hat6, Hpay⟩
  ihave HxL := (show pay m ρ c 6 ⊢ at' c xS fullShare.left (xb m ρ c) from BI.Entails.refl _) $$ Hpay
  iapply (wait_cell m ρ K c 7 [] (by decide) (show rS.view.dmaCredit = amt 7 from rfl) (wpE_waitDma2_eq 𝒱₀ (c : Thread nD τ) none Set.univ) _) $$ [Hc7 HO Hat7]
  · isplitr; · iexact HR
    isplitr; · iexact Hlev
    isplitl [Hc7]; · iexact Hc7
    isplitl [HO]; · iexact HO
    iexact Hat7
  iintro ⟨HO, Hat7, Hpay⟩
  ihave HrS := (show pay m ρ c 7 ⊢ held c rS from BI.Entails.refl _) $$ Hpay
  iapply (wait_cell m ρ K c 8 [] (by decide) (show wS.view.dmaCredit = amt 8 from rfl) (wpE_waitDma2_eq 𝒱₀ (c : Thread nD τ) none Set.univ) _) $$ [Hc8 HO Hat8]
  · isplitr; · iexact HR
    isplitr; · iexact Hlev
    isplitl [Hc8]; · iexact Hc8
    isplitl [HO]; · iexact HO
    iexact Hat8
  iintro ⟨HO, Hat8, Hpay⟩
  ihave HwS := (show pay m ρ c 8 ⊢ held c wS from BI.Entails.refl _) $$ Hpay
  iapply (wait_cell m ρ K c 9 [] (by decide) (show pSlo.view.dmaCredit = amt 9 from rfl) (wpE_waitDma2_eq 𝒱₀ (c : Thread nD τ) none Set.univ) _) $$ [Hc9 HO Hat9]
  · isplitr; · iexact HR
    isplitr; · iexact Hlev
    isplitl [Hc9]; · iexact Hc9
    isplitl [HO]; · iexact HO
    iexact Hat9
  iintro ⟨HO, Hat9, Hpay⟩
  ihave HpS := (show pay m ρ c 9 ⊢ held c pSlo from BI.Entails.refl _) $$ Hpay
  rw [wp_ret]; imodintro
  iapply Hk
  isplitl [HO]; · iexact HO
  isplitl [Hat5 Hat6 Hat7 Hat8 Hat9]
  · isplitl [Hat5]; · iexact Hat5
    isplitl [Hat6]; · iexact Hat6
    isplitl [Hat7]; · iexact Hat7
    isplitl [Hat8]; · iexact Hat8
    iexact Hat9
  isplitl [Ho]; · rw [← writes_out m ρ c f]; unfold oHi; iexact Ho
  isplitl [HpR]; · unfold held; iexists _; iexact HpR
  isplitl [HxL]; · iexact HxL
  isplitl [HrS]; · iexact HrS
  isplitl [HwS]; · iexact HwS
  iexact HpS

end Cert.Moe

end
-- ==== Proof.Body.lean ====
/-
# The body of one device, whole
-/
module

public import proofs.«01_k».proof.Proof.RunC

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 11 → ℕ)

/-- The device's positions in its eleven cells, all at round `R`. -/
def posAt (c : Dev nD) (R : ℕ) : sProp 𝕄 :=
  iprop(atPos EX (kcell c 0) R ∅ 0 ∗ atPos EX (kcell c 1) R ∅ 0 ∗ atPos EX (kcell c 2) R ∅ 0 ∗ atPos EX (kcell c 3) R ∅ 0 ∗ atPos EX (kcell c 4) R ∅ 0 ∗ atPos EX (kcell c 5) R ∅ 0 ∗ atPos EX (kcell c 6) R ∅ 0 ∗ atPos EX (kcell c 7) R ∅ 0 ∗ atPos EX (kcell c 8) R ∅ 0 ∗ atPos EX (kcell c 9) R ∅ 0 ∗ atPos EX (kcell c 10) R ∅ 0)
/-- The tokens of the duties the device pays: six at its peer's cells, five at its own. -/
def toks (c : Dev nD) : sProp 𝕄 :=
  iprop(dutyTok EX (kcell (peer c) 0) 0 () ∗ dutyTok EX (kcell (peer c) 1) 0 () ∗ dutyTok EX (kcell (peer c) 2) 0 () ∗ dutyTok EX (kcell (peer c) 3) 0 () ∗ dutyTok EX (kcell (peer c) 4) 0 () ∗ dutyTok EX (kcell (peer c) 5) 0 () ∗ dutyTok EX (kcell c 6) 0 () ∗ dutyTok EX (kcell c 7) 0 () ∗ dutyTok EX (kcell c 8) 0 () ∗ dutyTok EX (kcell c 9) 0 () ∗ dutyTok EX (kcell c 10) 0 ())
/-- The credits the device's peer owes it. -/
def credsIn (c : Dev nD) : sProp 𝕄 :=
  iprop(cred (tallyAt (kcell c 0) () (amt 0)) ∗ cred (tallyAt (kcell c 1) () (amt 1)) ∗ cred (tallyAt (kcell c 2) () (amt 2)) ∗ cred (tallyAt (kcell c 3) () (amt 3)) ∗ cred (tallyAt (kcell c 4) () (amt 4)) ∗ cred (tallyAt (kcell c 5) () (amt 5)))
/-- The device's scratch buffers, the two of the partial sums by halves. -/
def scratch (c : Dev nD) : sProp 𝕄 :=
  iprop((held c xR ∗ held c rR ∗ held c wR ∗ held c pRlo ∗ held c pRhi)
    ∗ held c xS ∗ held c rS ∗ held c wS ∗ held c pSlo ∗ held c pShi ∗ held c uB ∗ held c vB)

/-- The device's operand blocks. -/
def ins (c : Dev nD) : sProp 𝕄 :=
  iprop(at' c xM fullShare (xin m ρ c) ∗ at' c rM fullShare (rin m ρ c) ∗ at' c uM fullShare (uin m ρ c) ∗ at' c vM fullShare (vin m ρ c))

/-- The printed body at its buffers. -/
def body : Prog (TpuEff nD τ sig (Elt F) Λ₀ .tc) PUnit :=
  cc0_body xM (Memref.isWhole_whole _) rM (Memref.isWhole_whole _) uM (Memref.isWhole_whole _) vM (Memref.isWhole_whole _) oM (Memref.isWhole_whole _)
      xS (Memref.isWhole_whole _) xR (Memref.isWhole_whole _) rS (Memref.isWhole_whole _) rR (Memref.isWhole_whole _) wS (Memref.isWhole_whole _)
      wR (Memref.isWhole_whole _) pS (Memref.isWhole_whole _) pR (Memref.isWhole_whole _) uB (Memref.isWhole_whole _) vB (Memref.isWhole_whole _)
      cc0_scratch10 cc0_scratch11

set_option maxHeartbeats 3200000 in
/-- The body runs from the launch state to the device's block of the result, every cell's round over. -/
theorem run_body (c : Dev nD) (W : Waits sig Unit) (f : Vec F S256x512 .f32) (Kt : PUnit → sProp 𝕄) :
    iprop(records m ρ K ∗ levAts L lv ∗ posAt c 0 ∗ toks c ∗ credsIn c ∗ owes (c : Thread nD τ) (O₀ c) W ∗ scratch c
        ∗ ins m ρ c ∗ at' c oM fullShare f
        ∗ (∀ W', (owes (c : Thread nD τ) 0 W' ∗ posAt c 1 ∗ scratch c ∗ ins m ρ c ∗ at' c oM fullShare (outAt m ρ c)) -∗ Kt ⟨⟩))
      ⊢ run c body Kt := by
  unfold run body
  simp only [cc0_body_eq_skeleton]; unfold cc0_body_skel
  simp only [wp_bind]
  unfold posAt toks credsIn scratch ins O₀
  iintro ⟨#HR, #Hlev, ⟨A0, A1, A2, A3, A4, A5, A6, A7, A8, A9, A10⟩, ⟨T0, T1, T2, T3, T4, T5, T6, T7, T8, T9, T10⟩, ⟨C0, C1, C2, C3, C4, C5⟩, HO,
    ⟨Hland, HxS, HrS, HwS, HpSl, HpSh, HuB, HvB⟩, ⟨Hx, Hr, Hu, Hv⟩, Ho, Hk⟩
  iapply (run_part1 m ρ K c W _)
  isplitr; · iexact HR
  isplitr; · iexact Hlev
  isplitl [C0]; · iexact C0
  isplitl [HO]; · iexact HO
  isplitl [A0]; · iexact A0
  isplitl [T0]; · iexact T0
  isplitl [Hland]; · iexact Hland
  isplitl [Hr]; · iexact Hr
  isplitl [HrS]; · iexact HrS
  iintro %v5 %v8 %v9 ⟨HO, A0, ⟨LxR, LrR, LwR, LpRl, LpRh⟩, Hr, HrS⟩
  iapply (run_part2 m ρ K c v5 v8 v9 _ _)
  isplitr; · iexact HR
  isplitr; · iexact Hlev
  isplitl [C2]; · iexact C2
  isplitl [HO]; · iexact HO
  isplitl [A2]; · iexact A2
  isplitl [T7 T2 T6 T1]
  · isplitl [T7]; · iexact T7
    isplitl [T2]; · iexact T2
    isplitl [T6]; · iexact T6
    iexact T1
  isplitl [LxR]; · iexact LxR
  isplitl [LrR]; · iexact LrR
  isplitl [Hx]; · iexact Hx
  isplitl [Hr]; · iexact Hr
  isplitl [HrS]; · iexact HrS
  isplitl [HxS]; · iexact HxS
  iintro ⟨HO, A2, ⟨C7, C6⟩, Hx, Hr, HxS, HrR⟩
  iapply (run_part3 m ρ K c v5 v8 v9 _ _)
  isplitr; · iexact HR
  isplitl [HO]; · iexact HO
  isplitl [T8 T3]
  · isplitl [T8]; · iexact T8
    iexact T3
  isplitl [LwR]; · iexact LwR
  isplitl [HwS]; · iexact HwS
  iintro ⟨HO, C8⟩
  iapply (run_part4 m ρ K c v5 v8 v9 _ _)
  isplitr; · iexact HR
  isplitr; · iexact Hlev
  isplitl [C1 C3]
  · isplitl [C1]; · iexact C1
    iexact C3
  isplitl [HO]; · iexact HO
  isplitl [A1 A3]
  · isplitl [A1]; · iexact A1
    iexact A3
  isplitl [Hu]; · iexact Hu
  isplitl [Hv]; · iexact Hv
  isplitl [HuB]; · iexact HuB
  isplitl [HvB]; · iexact HvB
  iintro ⟨HO, ⟨A1, A3⟩, Hu, Hv, HuB, HvB, HxR, HwR⟩
  iapply (run_part5 m ρ c v9 _)
  isplitl [HxR]; · iexact HxR
  isplitl [HuB]; · iexact HuB
  isplitl [HvB]; · iexact HvB
  isplitl [HpSl]; · iexact HpSl
  iintro %v169 ⟨HxR, HuB, HvB, HpSl⟩
  iapply (run_part6 m ρ K c v5 v8 v169 _ _)
  isplitr; · iexact HR
  isplitl [HO]; · iexact HO
  isplitl [T9 T4]
  · isplitl [T9]; · iexact T9
    iexact T4
  isplitl [LpRl]; · iexact LpRl
  isplitl [HpSl]; · iexact HpSl
  isplitl [HxR]; · iexact HxR
  isplitl [HuB]; · iexact HuB
  isplitl [HvB]; · iexact HvB
  iintro ⟨HO, C9, HxR, HuB, HvB⟩
  iapply (run_part7 m ρ K c v5 v8 v9 _ _)
  isplitr; · iexact HR
  isplitl [HO]; · iexact HO
  isplitl [T10 T5]
  · isplitl [T10]; · iexact T10
    iexact T5
  isplitl [LpRh]; · iexact LpRh
  isplitl [HpSh]; · iexact HpSh
  isplitl [HxS]; · iexact HxS
  isplitl [HuB]; · iexact HuB
  isplitl [HvB]; · iexact HvB
  iintro ⟨HO, C10, HxS, HuB, HvB⟩
  iapply (run_part8 m ρ K c v5 v8 v9 _ f _)
  isplitr; · iexact HR
  isplitr; · iexact Hlev
  isplitl [C4]; · iexact C4
  isplitl [HO]; · iexact HO
  isplitl [A4]; · iexact A4
  isplitl [HuB]; · iexact HuB
  isplitl [HvB]; · iexact HvB
  isplitl [Ho]; · iexact Ho
  iintro %v266 %v267 ⟨HO, A4, HuB, HvB, Ho, HpRl⟩
  iapply (run_part9 m ρ K c v8 v266 v267 _ f _)
  isplitr; · iexact HR
  isplitr; · iexact Hlev
  isplitl [C5 C6 C7 C8 C9]
  · isplitl [C5]; · iexact C5
    isplitl [C6]; · iexact C6
    isplitl [C7]; · iexact C7
    isplitl [C8]; · iexact C8
    iexact C9
  isplitl [HO]; · iexact HO
  isplitl [A5 A6 A7 A8 A9]
  · isplitl [A5]; · iexact A5
    isplitl [A6]; · iexact A6
    isplitl [A7]; · iexact A7
    isplitl [A8]; · iexact A8
    iexact A9
  isplitl [Ho]; · iexact Ho
  iintro ⟨HO, ⟨A5, A6, A7, A8, A9⟩, Ho, HpRh, HxL, HrS, HwS, HpSl⟩
  simp only [Prog.lift, Prog.bind_op, Prog.bind_ret, Prog.pure_eq_ret]
  iapply (wait_cell m ρ K c 10 [] (by decide) (show pShi.view.dmaCredit = amt 10 from rfl) (wpE_waitDma2_eq 𝒱₀ (c : Thread nD τ) none Set.univ) _) $$ [C10 HO A10]
  · isplitr; · iexact HR
    isplitr; · iexact Hlev
    isplitl [C10]; · iexact C10
    isplitl [HO]; · iexact HO
    iexact A10
  iintro ⟨HO, A10, Hpay⟩
  ihave HpSh := (show pay m ρ c 10 ⊢ held c pShi from BI.Entails.refl _) $$ Hpay
  rw [wp_ret]; imodintro
  rw [wp_ret]; imodintro
  ihave HxS := (x_join c (xb m ρ c)) $$ [HxL HxS]
  · isplitl [HxL]; · iexact HxL
    iexact HxS
  iapply Hk
  isplitl [HO]; · iexact HO
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  unfold held
  isplitl [HxR HrR HwR HpRl HpRh HxS HrS HwS HpSl HpSh HuB HvB]
  · isplitl [HxR HrR HwR HpRl HpRh]
    · isplitl [HxR]; · iexists _; iexact HxR
      isplitl [HrR]; · iexists _; iexact HrR
      isplitl [HwR]; · iexists _; iexact HwR
      isplitl [HpRl]; · iexact HpRl
      iexact HpRh
    isplitl [HxS]; · iexists _; iexact HxS
    isplitl [HrS]; · iexact HrS
    isplitl [HwS]; · iexact HwS
    isplitl [HpSl]; · iexact HpSl
    isplitl [HpSh]; · iexact HpSh
    isplitl [HuB]; · iexists _; iexact HuB
    iexists _; iexact HvB
  isplitl [Hx Hr Hu Hv]
  · isplitl [Hx]; · iexact Hx
    isplitl [Hr]; · iexact Hr
    isplitl [Hu]; · iexact Hu
    iexact Hv
  iexact Ho

end Cert.Moe

end
-- ==== Proof.Launch.lean ====
/-
# The launch: from any memory to the devices' blocks of the result

The proof data of the one pipeline, the body obligation, the cells funded and shared out, the run of @main.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- What a device starts with: the records, its positions and tokens, the credits its peer owes it. -/
def G' (c : Dev nD) : sProp 𝕄 := iprop(∃ K, records m ρ K ∗ posAt c 0 ∗ toks c)
def start (c : Dev nD) : sProp 𝕄 := iprop(G' m ρ c ∗ credsIn c ∗ levAts L lv)
def Φ₀ (c : Dev nD) : sProp 𝕄 := iprop(start m ρ c ∗ scratch c)
/-- What it ends with: its scratch buffers and every cell closed at zero. -/
def Φ₁ (c : Dev nD) : sProp 𝕄 := iprop(scratch c ∗ semVal (kcell c 0) 0 ∗ semVal (kcell c 1) 0 ∗ semVal (kcell c 2) 0 ∗ semVal (kcell c 3) 0 ∗ semVal (kcell c 4) 0 ∗ semVal (kcell c 5) 0 ∗ semVal (kcell c 6) 0 ∗ semVal (kcell c 7) 0 ∗ semVal (kcell c 8) 0 ∗ semVal (kcell c 9) 0 ∗ semVal (kcell c 10) 0)

/-- The staged blocks after the point: the operands' as fetched, the result's as computed. -/
def aft (c : Dev nD) (w : Fin cfg0.W) : (cfg0.win w).block.Idx → Elt F (cfg0.win w).elt := match w with
  | ⟨0, _⟩ => xin m ρ c
  | ⟨1, _⟩ => rin m ρ c
  | ⟨2, _⟩ => uin m ρ c
  | ⟨3, _⟩ => vin m ρ c
  | ⟨4, _⟩ => outAt m ρ c

def dats (_ : Fin 1) (c : Dev nD) : Dat τ (Elt F) Unit ℕ UU ℕ cfg0 c where
  A w := (s₀ m ρ).mem ((cfg0.win w).arr.view.loc (c : Thread nD τ))
  after w _ := aft m ρ c w
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The partial-sum buffers by halves -/

theorem half_disjoint : Disjoint rLo.set rHi.set := Finset.disjoint_left.mpr fun y h h' => by
  obtain ⟨k, hk, e⟩ := rLo.mem_set.mp h 0
  obtain ⟨k', hk', e'⟩ := rHi.mem_set.mp h' 0
  have hk1 : k < 128 := hk
  have e1 : (y 0).val = 0 + 1 * k := e
  have e2 : (y 0).val = 128 + 1 * k' := e'
  omega
theorem half_union : rLo.set ∪ rHi.set = Finset.univ := Finset.eq_univ_iff_forall.mpr fun y => by
  have h0 : (y 0).val < 256 := (y 0).isLt
  have h1 : (y 1).val < 512 := (y 1).isLt
  by_cases h : (y 0).val < 128
  · refine Finset.mem_union_left _ (rLo.mem_set.mpr fun a => ?_)
    fin_cases a
    · exact ⟨(y 0).val, h, by show (y 0).val = 0 + 1 * (y 0).val; omega⟩
    · exact ⟨(y 1).val, h1, by show (y 1).val = 0 + 1 * (y 1).val; omega⟩
  · refine Finset.mem_union_right _ (rHi.mem_set.mpr fun a => ?_)
    fin_cases a
    · exact ⟨(y 0).val - 128, by show (y 0).val - 128 < 128; omega, by show (y 0).val = 128 + 1 * ((y 0).val - 128); omega⟩
    · exact ⟨(y 1).val, h1, by show (y 1).val = 0 + 1 * (y 1).val; omega⟩

theorem pSlo_set : pSlo.view.set = rLo.set := View.set_slice_whole cc0_scratch6 rLo
theorem pShi_set : pShi.view.set = rHi.set := View.set_slice_whole cc0_scratch6 rHi
theorem pRlo_set : pRlo.view.set = rLo.set := View.set_slice_whole cc0_scratch7 rLo
theorem pRhi_set : pRhi.view.set = rHi.set := View.set_slice_whole cc0_scratch7 rHi

/-- A location's whole contents are the two parts that make it up. -/
theorem parts_split {ℓ : Loc nD τ sig} {I J : Finset ℓ.2.ty.Idx} (hd : Disjoint I J) (hu : I ∪ J = Finset.univ) :
    (iprop(∃ f : Buf (Elt F) ℓ, ℓ ↦{fullShare} f) : sProp 𝕄) ⊢ iprop((∃ f : Buf (Elt F) ℓ, ℓ ↦[I]{fullShare} f) ∗ (∃ f : Buf (Elt F) ℓ, ℓ ↦[J]{fullShare} f)) := by
  rw [← hu]
  iintro ⟨%f, H⟩
  ihave H2 := (pointsTo_union (ℓ := ℓ) (f := f) (q := fullShare) hd).1 $$ H
  icases H2 with ⟨H1, H2⟩
  isplitl [H1]
  · iexists f; iexact H1
  · iexists f; iexact H2
theorem parts_join {ℓ : Loc nD τ sig} {I J : Finset ℓ.2.ty.Idx} (hd : Disjoint I J) (hu : I ∪ J = Finset.univ) :
    iprop((∃ f : Buf (Elt F) ℓ, ℓ ↦[I]{fullShare} f) ∗ (∃ f : Buf (Elt F) ℓ, ℓ ↦[J]{fullShare} f)) ⊢ (iprop(∃ f : Buf (Elt F) ℓ, ℓ ↦{fullShare} f) : sProp 𝕄) := by
  rw [← hu]
  iintro ⟨⟨%f, H1⟩, ⟨%g, H2⟩⟩
  ihave H := (pointsTo_join (ℓ := ℓ) (q := fullShare) (f := f) (g := g) hd) $$ [H1 H2]
  · isplitl [H1]; · iexact H1
    iexact H2
  iexists _
  iexact H

theorem pS_split (c : Dev nD) :
    (iprop(∃ f : Buf (Elt F) ((c : Thread nD τ).loc cc0_scratch6), ((c : Thread nD τ).loc cc0_scratch6) ↦{fullShare} f) : sProp 𝕄) ⊢ iprop(held c pSlo ∗ held c pShi) := by
  unfold held
  rw [pSlo_set, pShi_set]
  exact parts_split (ℓ := (c : Thread nD τ).loc cc0_scratch6) half_disjoint half_union
theorem pS_join (c : Dev nD) :
    iprop(held c pSlo ∗ held c pShi) ⊢ (iprop(∃ f : Buf (Elt F) ((c : Thread nD τ).loc cc0_scratch6), ((c : Thread nD τ).loc cc0_scratch6) ↦{fullShare} f) : sProp 𝕄) := by
  unfold held
  rw [pSlo_set, pShi_set]
  exact parts_join (ℓ := (c : Thread nD τ).loc cc0_scratch6) half_disjoint half_union

theorem pR_split (c : Dev nD) :
    (iprop(∃ f : Buf (Elt F) ((c : Thread nD τ).loc cc0_scratch7), ((c : Thread nD τ).loc cc0_scratch7) ↦{fullShare} f) : sProp 𝕄) ⊢ iprop(held c pRlo ∗ held c pRhi) := by
  unfold held
  rw [pRlo_set, pRhi_set]
  exact parts_split (ℓ := (c : Thread nD τ).loc cc0_scratch7) half_disjoint half_union
theorem pR_join (c : Dev nD) :
    iprop(held c pRlo ∗ held c pRhi) ⊢ (iprop(∃ f : Buf (Elt F) ((c : Thread nD τ).loc cc0_scratch7), ((c : Thread nD τ).loc cc0_scratch7) ↦{fullShare} f) : sProp 𝕄) := by
  unfold held
  rw [pRlo_set, pRhi_set]
  exact parts_join (ℓ := (c : Thread nD τ).loc cc0_scratch7) half_disjoint half_union

/-- A whole buffer is the memref of all of it. -/
theorem held_eq (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  simp only [Memref.view_whole, View.set_whole]

theorem scratch_intro (c : Dev nD) : (Pipeline.scopedRest (Ix := Unit) (Name := ℕ) (U := UU) (Lvl := ℕ) (Val := Elt F) spec0 c : sProp 𝕄) ⊢ scratch c := by
  rw [scopedRest0_eq]
  iintro ⟨H0, H1, H2, H3, H4, H5, H6, H7, H8, H9⟩
  ihave HS := (pS_split (F := F) c) $$ H6
  icases HS with ⟨Sl, Sh⟩
  ihave HR := (pR_split (F := F) c) $$ H7
  icases HR with ⟨Rl, Rh⟩
  ihave G0 := (show _ ⊢ held c xS from Entails.of_eq (held_eq (F := F) c cc0_scratch0)) $$ H0
  ihave G1 := (show _ ⊢ held c xR from Entails.of_eq (held_eq (F := F) c cc0_scratch1)) $$ H1
  ihave G2 := (show _ ⊢ held c rS from Entails.of_eq (held_eq (F := F) c cc0_scratch2)) $$ H2
  ihave G3 := (show _ ⊢ held c rR from Entails.of_eq (held_eq (F := F) c cc0_scratch3)) $$ H3
  ihave G4 := (show _ ⊢ held c wS from Entails.of_eq (held_eq (F := F) c cc0_scratch4)) $$ H4
  ihave G5 := (show _ ⊢ held c wR from Entails.of_eq (held_eq (F := F) c cc0_scratch5)) $$ H5
  ihave G8 := (show _ ⊢ held c uB from Entails.of_eq (held_eq (F := F) c cc0_scratch8)) $$ H8
  ihave G9 := (show _ ⊢ held c vB from Entails.of_eq (held_eq (F := F) c cc0_scratch9)) $$ H9
  unfold scratch
  isplitl [G1 G3 G5 Rl Rh]
  · isplitl [G1]; · iexact G1
    isplitl [G3]; · iexact G3
    isplitl [G5]; · iexact G5
    isplitl [Rl]; · iexact Rl
    iexact Rh
  isplitl [G0]; · iexact G0
  isplitl [G2]; · iexact G2
  isplitl [G4]; · iexact G4
  isplitl [Sl]; · iexact Sl
  isplitl [Sh]; · iexact Sh
  isplitl [G8]; · iexact G8
  iexact G9

theorem scratch_exit (c : Dev nD) : scratch c ⊢ (Pipeline.scopedRest (Ix := Unit) (Name := ℕ) (U := UU) (Lvl := ℕ) (Val := Elt F) spec0 c : sProp 𝕄) := by
  rw [scopedRest0_eq]
  unfold scratch
  iintro ⟨⟨G1, G3, G5, Rl, Rh⟩, G0, G2, G4, Sl, Sh, G8, G9⟩
  ihave H6 := (pS_join (F := F) c) $$ [Sl Sh]
  · isplitl [Sl]; · iexact Sl
    iexact Sh
  ihave H7 := (pR_join (F := F) c) $$ [Rl Rh]
  · isplitl [Rl]; · iexact Rl
    iexact Rh
  ihave H0 := (show held c xS ⊢ _ from Entails.of_eq (held_eq (F := F) c cc0_scratch0).symm) $$ G0
  ihave H1 := (show held c xR ⊢ _ from Entails.of_eq (held_eq (F := F) c cc0_scratch1).symm) $$ G1
  ihave H2 := (show held c rS ⊢ _ from Entails.of_eq (held_eq (F := F) c cc0_scratch2).symm) $$ G2
  ihave H3 := (show held c rR ⊢ _ from Entails.of_eq (held_eq (F := F) c cc0_scratch3).symm) $$ G3
  ihave H4 := (show held c wS ⊢ _ from Entails.of_eq (held_eq (F := F) c cc0_scratch4).symm) $$ G4
  ihave H5 := (show held c wR ⊢ _ from Entails.of_eq (held_eq (F := F) c cc0_scratch5).symm) $$ G5
  ihave H8 := (show held c uB ⊢ _ from Entails.of_eq (held_eq (F := F) c cc0_scratch8).symm) $$ G8
  ihave H9 := (show held c vB ⊢ _ from Entails.of_eq (held_eq (F := F) c cc0_scratch9).symm) $$ G9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer at contents known to be `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_at (c : Dev nD) (b : Ref sig .tc) (X : b.ty.Contents (Elt F)) :
    (stg c b X : sProp 𝕄) ⊢ iprop((Memref.whole b).view.loc (c : Thread nD τ) ↦[(Memref.whole b).view.set]{fullShare} X) := by
  simp only [Memref.view_whole, View.set_whole]
  iintro ⟨%f, %hf, H⟩
  subst hf
  iexact H
theorem at_stg (c : Dev nD) (b : Ref sig .tc) (X : b.ty.Contents (Elt F)) :
    iprop((Memref.whole b).view.loc (c : Thread nD τ) ↦[(Memref.whole b).view.set]{fullShare} X) ⊢ (stg c b X : sProp 𝕄) := by
  simp only [Memref.view_whole, View.set_whole]
  iintro H
  iexists X
  isplitr; · (ipureintro; rfl)
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 (xin m ρ c) ∗ stg c cc0_stg1_0 (rin m ρ c) ∗ stg c cc0_stg2_0 (uin m ρ c) ∗ stg c cc0_stg3_0 (vin m ρ c) ∗ stg c cc0_stg4_0 (outAt m ρ c))

theorem before_0 (c : Dev nD) (d) : (dats m ρ 0 c).before (0 : Fin 5) t0_0 d = xin m ρ c := by
  unfold Dat.before; rw [if_pos (fetch0_0 t0_0)]; rfl
theorem before_1 (c : Dev nD) (d) : (dats m ρ 0 c).before (1 : Fin 5) t0_0 d = rin m ρ c := by
  unfold Dat.before; rw [if_pos (fetch0_1 t0_0)]; rfl
theorem before_2 (c : Dev nD) (d) : (dats m ρ 0 c).before (2 : Fin 5) t0_0 d = uin m ρ c := by
  unfold Dat.before; rw [if_pos (fetch0_2 t0_0)]; rfl
theorem before_3 (c : Dev nD) (d) : (dats m ρ 0 c).before (3 : Fin 5) t0_0 d = vin m ρ c := by
  unfold Dat.before; rw [if_pos (fetch0_3 t0_0)]; rfl

set_option maxHeartbeats 1600000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from fun Φ => bigSep_W0 Φ,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from fun Φ => bigSep_W0 Φ]
  simp only [owns_whole_eq]
  show bodyPre m ρ c ⊢ run c body (fun _ => bodyPost m ρ c)
  unfold bodyPre Φ₀ start G' Dat.owesAt Pipeline.owesWithin
  iintro ⟨⟨⟨⟨%K, #HR, Hpos, Htok⟩, Hcr, #Hlev⟩, Hscr⟩, ⟨%W, %hW, HO⟩, ⟨%d0, Hx⟩, ⟨%d1, Hr⟩, ⟨%d2, Hu⟩, ⟨%d3, Hv⟩, ⟨%d4, %f, %hf, Ho⟩⟩
  rw [before_0, before_1, before_2, before_3]
  ihave Hx := (show _ ⊢ at' c xM fullShare (xin m ρ c) from stg_at c cc0_stg0_0 (xin m ρ c)) $$ Hx
  ihave Hr := (show _ ⊢ at' c rM fullShare (rin m ρ c) from stg_at c cc0_stg1_0 (rin m ρ c)) $$ Hr
  ihave Hu := (show _ ⊢ at' c uM fullShare (uin m ρ c) from stg_at c cc0_stg2_0 (uin m ρ c)) $$ Hu
  ihave Hv := (show _ ⊢ at' c vM fullShare (vin m ρ c) from stg_at c cc0_stg3_0 (vin m ρ c)) $$ Hv
  ihave Ho := (show (((c : Thread nD τ).loc cc0_stg4_0) ↦{fullShare} f) ⊢ at' c oM fullShare f from Entails.of_eq (held_whole c cc0_stg4_0 rfl f)) $$ Ho
  unfold run
  iapply (Sem.wp_fupd _ _)
  iapply (show _ ⊢ run c body (fun _ => iprop(|={Set.univ}=> bodyPost m ρ c)) from run_body m ρ K c W f (fun _ => iprop(|={Set.univ}=> bodyPost m ρ c)))
  isplitr; · iexact HR
  isplitr; · iexact Hlev
  isplitl [Hpos]; · iexact Hpos
  isplitl [Htok]; · iexact Htok
  isplitl [Hcr]; · iexact Hcr
  isplitl [HO]; · iexact HO
  isplitl [Hscr]; · iexact Hscr
  unfold ins
  isplitl [Hx Hr Hu Hv]
  · isplitl [Hx]; · iexact Hx
    isplitl [Hr]; · iexact Hr
    isplitl [Hu]; · iexact Hu
    iexact Hv
  isplitl [Ho]; · iexact Ho
  iintro %W' ⟨HO, Hpos, Hscr, ⟨Hx, Hr, Hu, Hv⟩, Ho⟩
  unfold bodyPost Φ₁ Dat.owesAt Pipeline.owesWithin
  unfold posAt
  icases Hpos with ⟨P0, P1, P2, P3, P4, P5, P6, P7, P8, P9, P10⟩
  imod (close_cell m ρ K c 0) $$ [P0] with S0
  · isplitr; · iexact HR
    iexact P0
  imod (close_cell m ρ K c 1) $$ [P1] with S1
  · isplitr; · iexact HR
    iexact P1
  imod (close_cell m ρ K c 2) $$ [P2] with S2
  · isplitr; · iexact HR
    iexact P2
  imod (close_cell m ρ K c 3) $$ [P3] with S3
  · isplitr; · iexact HR
    iexact P3
  imod (close_cell m ρ K c 4) $$ [P4] with S4
  · isplitr; · iexact HR
    iexact P4
  imod (close_cell m ρ K c 5) $$ [P5] with S5
  · isplitr; · iexact HR
    iexact P5
  imod (close_cell m ρ K c 6) $$ [P6] with S6
  · isplitr; · iexact HR
    iexact P6
  imod (close_cell m ρ K c 7) $$ [P7] with S7
  · isplitr; · iexact HR
    iexact P7
  imod (close_cell m ρ K c 8) $$ [P8] with S8
  · isplitr; · iexact HR
    iexact P8
  imod (close_cell m ρ K c 9) $$ [P9] with S9
  · isplitr; · iexact HR
    iexact P9
  imod (close_cell m ρ K c 10) $$ [P10] with S10
  · isplitr; · iexact HR
    iexact P10
  imodintro
  isplitl [Hscr S0 S1 S2 S3 S4 S5 S6 S7 S8 S9 S10]
  · isplitl [Hscr]; · iexact Hscr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [HO]
  · iexists W'
    isplitr; · (ipureintro; exact fun _ _ => Or.inl trivial)
    iexact HO
  isplitl [Hx]
  · iapply (at_stg c cc0_stg0_0 (xin m ρ c)); iexact Hx
  isplitl [Hr]
  · iapply (at_stg c cc0_stg1_0 (rin m ρ c)); iexact Hr
  isplitl [Hu]
  · iapply (at_stg c cc0_stg2_0 (uin m ρ c)); iexact Hu
  isplitl [Hv]
  · iapply (at_stg c cc0_stg3_0 (vin m ρ c)); iexact Hv
  iapply (at_stg c cc0_stg4_0 (outAt m ρ c)); iexact Ho

/-! ## The ghost state at launch -/

/-- The kernel's own ten semaphores. -/
abbrev osem (k : Fin 10) : SemLoc sig := csem k.succ

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (fun ck : Dev nD × Fin 11 => (kcell ck.1 ck.2 : GSem nD τ sig)) := by
  rintro ⟨c, k⟩ ⟨c', k'⟩ h
  have h1 : c = c' := congrArg (fun g : GSem nD τ sig => g.1.1) h
  have h2 : csem k = csem k' := congrArg Prod.snd h
  rw [h1, csem_injective h2]

theorem kcell_inj {c c' : Dev nD} {j j' : Fin 11} (h : kcell c j = kcell c' j') : c = c' ∧ j = j' :=
  Prod.mk.inj (kcell_injective (a₁ := (c, j)) (a₂ := (c', j')) h)

def exCells : Finset (GSem nD τ sig) := Finset.univ.map ⟨fun ck : Dev nD × Fin 11 => kcell ck.1 ck.2, kcell_injective⟩

theorem tok_injective : Function.Injective (fun ck : Dev nD × Fin 11 => ((kcell ck.1 ck.2, 0, ()) : GSem nD τ sig × ℕ × Unit)) :=
  fun a b h => kcell_injective (congrArg Prod.fst h)

def exToks : Finset (GSem nD τ sig × ℕ × Unit) := Finset.univ.map ⟨_, tok_injective⟩

def u₀ : UU :=
  (initOf (Pipeline.cells cfgs cellOf_inj) (Pipeline.launchToks cfgs cellOf_inj), initOf exCells exToks)

/-- The tokens of the duties of the device's own cells, as minted. -/
def minted (c : Dev nD) : sProp 𝕄 := bigSep Finset.univ fun k : Fin 11 => dutyTok EX (kcell c k) 0 ()

def G (c : Dev nD) : sProp 𝕄 :=
  iprop((bigSep Finset.univ fun k : Fin 11 => roundState EX (Rd m ρ) (kcell c k) 0)
    ∗ (bigSep Finset.univ fun k : Fin 11 => iprop(atPos EX (kcell c k) 0 ∅ 0 ∗ reached EX (kcell c k) 0)) ∗ minted c)

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem fund_ex : BI.own (EX (initOf exCells exToks)) ⊢ (|==> bigSep Finset.univ (G (F := F) m ρ) : sProp 𝕄) := by
  have hX (Φ : GSem nD τ sig → sProp 𝕄) : bigSep exCells Φ = bigSep Finset.univ fun c : Dev nD => bigSep Finset.univ fun k : Fin 11 => Φ (kcell c k) := by
    unfold exCells; rw [bigSep_map, bigSep_univ_prod]; rfl
  have hT : bigSep exToks (fun x => (dutyTok EX x.1 x.2.1 x.2.2 : sProp 𝕄)) = bigSep Finset.univ fun c : Dev nD => minted c := by
    unfold exToks; rw [bigSep_map, bigSep_univ_prod]; rfl
  iintro HX
  imod (Rounds.fund EX (Rd m ρ) exCells exToks) $$ HX with ⟨Hst, Hr, Hat, Htok⟩
  imodintro
  ihave Hst' := (Entails.of_eq (hX fun g => roundState EX (Rd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell c 1) 0 ∗ semVal (kcell c 2) 0 ∗ semVal (kcell c 3) 0 ∗ semVal (kcell c 4) 0 ∗ semVal (kcell c 5) 0
        ∗ semVal (kcell c 6) 0 ∗ semVal (kcell c 7) 0 ∗ semVal (kcell c 8) 0 ∗ semVal (kcell c 9) 0 ∗ semVal (kcell c 10) 0) := by
  rw [Pipeline.ownSems0_eq_of_list c osem [0, 1, 2, 3, 4, 5, 6, 7, 8, 9] (by decide) (by decide)]; rfl

theorem unscopedSems0_eq (c : Dev nD) : (unscopedSems0 c : sProp 𝕄) = semVal (kcell c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell c k) 0 : sProp 𝕄) := by
  rw [ownSems0_eq, unscopedSems0_eq, bigSep_fin11]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 11 => iprop(∃ κ : ℕ, cellInv EX (Rd m ρ) κ (kcell c k)))
          ∗ (bigSep Finset.univ fun k : Fin 11 => iprop(atPos EX (kcell c k) 0 ∅ 0 ∗ reached EX (kcell c k) 0)) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell c k) 0) ∗ bigSep Finset.univ fun k : Fin 11 => roundState EX (Rd m ρ) (kcell c k) 0)
      ⊢ (|={Set.univ}=> bigSep Finset.univ fun k : Fin 11 => iprop(∃ κ : ℕ, cellInv EX (Rd m ρ) κ (kcell c k)) : sProp 𝕄) from by
        rw [← bigSep_sep']
        exact (bigSep_mono fun k _ => (Rounds.body_intro EX (Rd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The peer as a permutation of the devices. -/
def peerE : Dev nD ≃ Dev nD := ⟨peer, peer, peer_peer, peer_peer⟩

/-- The tokens of a pair of devices' landing cells change hands. -/
theorem toks_swap : (bigSep Finset.univ fun c : Dev nD => (minted c : sProp 𝕄)) ⊢ bigSep Finset.univ fun c : Dev nD => toks c := by
  have hp (j : Fin 11) : (bigSep Finset.univ fun c : Dev nD => (dutyTok EX (kcell c j) 0 () : sProp 𝕄))
      = bigSep Finset.univ fun c : Dev nD => dutyTok EX (kcell (peer c) j) 0 () :=
    bigSep_univ_equiv peerE (fun c : Dev nD => (dutyTok EX (kcell c j) 0 () : sProp 𝕄))
  unfold minted toks
  simp only [bigSep_fin11, bigSep_sep']
  rw [hp 0, hp 1, hp 2, hp 3, hp 4, hp 5]

theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem pos_chain : (bigSep Finset.univ fun c : Dev nD => bigSep Finset.univ fun k : Fin 11 => (atPos EX (kcell c k) 0 ∅ 0 : sProp 𝕄))
    ⊢ bigSep Finset.univ fun c : Dev nD => posAt c 0 :=
  Entails.of_eq (bigSep_congr fun c _ => by unfold posAt; rw [bigSep_fin11])

theorem G'_intro (K : Dev nD × Fin 11 → ℕ) (c : Dev nD) : iprop(records m ρ K ∗ posAt c 0 ∗ toks c) ⊢ (G' m ρ c : sProp 𝕄) := by
  unfold G'
  iintro H
  iexists K
  iexact H

theorem regroup :
    (bigSep Finset.univ fun c : Dev nD => iprop((bigSep Finset.univ fun k : Fin 11 => iprop(∃ κ : ℕ, cellInv EX (Rd m ρ) κ (kcell c k)))
          ∗ (bigSep Finset.univ fun k : Fin 11 => iprop(atPos EX (kcell c k) 0 ∅ 0 ∗ reached EX (kcell c k) 0)) ∗ minted c) : sProp 𝕄)
      ⊢ bigSep Finset.univ (G' (F := F) m ρ) := by
  rw [bigSep_sep', bigSep_sep', ← bigSep_univ_prod (fun ck : Dev nD × Fin 11 => iprop(∃ κ : ℕ, cellInv EX (Rd m ρ) κ (kcell ck.1 ck.2))),
    bigSep_congr (s := Finset.univ) (fun (c : Dev nD) _ => bigSep_sep' Finset.univ (fun k : Fin 11 => (atPos EX (kcell c k) 0 ∅ 0 : sProp 𝕄)) (fun k => reached EX (kcell c k) 0)),
    bigSep_sep', ← bigSep_univ_prod (fun ck : Dev nD × Fin 11 => (reached EX (kcell ck.1 ck.2) 0 : sProp 𝕄))]
  iintro ⟨HI, ⟨Hat, #HR⟩, Htok⟩
  ihave HK := (BI.bigSep_exists_pi Finset.univ (fun (ck : Dev nD × Fin 11) (κ : ℕ) => (cellInv EX (Rd m ρ) κ (kcell ck.1 ck.2) : sProp 𝕄))) $$ HI
  icases HK with ⟨%K, #HI⟩
  ihave Htk := (toks_swap (F := F)) $$ Htok
  iapply (bigSep_keep (R := records m ρ K) fun c _ => G'_intro m ρ K c)
  isplitr
  · unfold records; isplitl; · iexact HI
    iexact HR
  · iapply (Entails.of_eq (bigSep_sep' Finset.univ (fun c : Dev nD => (posAt c 0 : sProp 𝕄)) toks).symm)
    isplitl [Hat]
    · iapply (pos_chain (F := F))
      iexact Hat
    iexact Htk

/-- The own and the launch's semaphores of all devices become the exchange's cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' (F := F) m ρ) :=
  ((bigSep_mono fun c _ => core_alloc m ρ c).trans (bigSep_fupd _ _)).trans (BI.fupd_mono (regroup m ρ))

/-! ## The credits at launch -/

theorem owe_not_mem (d c : Dev nD) (j : Fin 11) : ∀ l : List (Fin 11), j ∉ l → owe d l (kcell c j) () = 0
  | [], _ => rfl
  | i :: l, h => by
    rw [owe_cons, Pi.add_apply, Finsupp.add_apply, owe_not_mem d c j l (fun h' => h (List.mem_cons_of_mem _ h')),
      tallyAt_ne_cell (fun e => h (List.mem_cons.mpr (Or.inl (kcell_inj e).2))), Finsupp.zero_apply, Nat.add_zero]

theorem owe_mem (d c : Dev nD) (j : Fin 11) : ∀ l : List (Fin 11), l.Nodup → j ∈ l →
    owe d l (kcell c j) () = if d = peer c then amt j else 0
  | [], _, h => absurd h List.not_mem_nil
  | i :: l, hd, h => by
    rw [owe_cons, Pi.add_apply, Finsupp.add_apply]
    by_cases e : i = j
    · subst e
      rw [owe_not_mem d c i l (List.nodup_cons.mp hd).1, Nat.zero_add, tallyAt_apply]
      by_cases hp : d = peer c
      · subst hp; rw [peer_peer, if_pos ⟨rfl, rfl⟩, if_pos rfl]
      · rw [if_neg (fun ⟨h1, _⟩ => hp (by rw [(kcell_inj h1).1, peer_peer])), if_neg hp]
    · rw [tallyAt_ne_cell (fun e' => e (kcell_inj e').2.symm), Finsupp.zero_apply, Nat.add_zero,
        owe_mem d c j l (List.nodup_cons.mp hd).2 ((List.mem_cons.mp h).resolve_left (fun h' => e h'.symm))]

theorem launch_credit (c : Dev nD) (j : Fin 11) (hj : j ∈ [0, 2, 1, 3, 4, (5 : Fin 11)]) :
    tallyOn (kcell c j) (launchCredit (Pipeline.owing O₀) 0 (kcell c j)) = (tallyAt (kcell c j) () (amt j) : CellTallies nD τ sig Unit) := by
  unfold tallyAt; refine congrArg _ (Finsupp.ext fun u => ?_); cases u
  rw [Pipeline.launchCredit_owing, Finsupp.single_eq_same, Finset.sum_congr rfl fun d _ => show O₀ d (kcell c j) () = if d = peer c then amt j else 0 from owe_mem d c j _ (by decide) hj,
    Finset.sum_ite_eq' Finset.univ (peer c) fun _ => amt j, if_pos (Finset.mem_univ _)]

/-- The six landing cells. -/
def landSems : Finset (SemLoc sig) := Finset.univ.map ⟨fun k : Fin 6 => csem (Fin.castLE (by decide) k), fun a b h => Fin.castLE_injective _ (csem_injective h)⟩

theorem creds (c : Dev nD) : (Pipeline.launchCred O₀ c : sProp 𝕄) ⊢ credsIn c := by
  unfold Pipeline.launchCred
  refine (bigSep_subset (Finset.subset_univ landSems)).trans ?_
  unfold landSems
  rw [bigSep_map, bigSep_univ_eq_bigSepL [0, 1, 2, 3, 4, 5] (by decide) (by decide)]
  unfold credsIn
  rw [← launch_credit c 0 (by decide), ← launch_credit c 1 (by decide), ← launch_credit c 2 (by decide), ← launch_credit c 3 (by decide),
    ← launch_credit c 4 (by decide), ← launch_credit c 5 (by decide)]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp 𝕄) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ m ρ c from rfl]
  unfold Φ₀
  iintro ⟨Hs, -, Hr⟩
  isplitl [Hs]; · iexact Hs
  iapply (scratch_intro (F := F) c); iexact Hr

theorem phi1_exit (c : Dev nD) :
    (dats (F := F) m ρ 0 c).Φ (Fin.last cfg0.N) ⊢ iprop(unscopedSems0 c ∗ Pipeline.ownSems0 osem c ∗ Pipeline.scopedRest cfg0.spec c) := by
  rw [show (dats (F := F) m ρ 0 c).Φ (Fin.last cfg0.N) = Φ₁ c from rfl, ownSems0_eq, unscopedSems0_eq]
  unfold Φ₁
  iintro ⟨Hr, HB, HS⟩
  isplitl [HB]; · iexact HB
  isplitl [HS]; · iexact HS
  iapply (scratch_exit (F := F) c); iexact Hr

theorem mayWait_stage (c : Dev nD) (sm : SemLoc sig) (h : ixOf sm = none) (O : CellTallies nD τ sig Unit) (hO : O = O₀ c ∨ O = 0) :
    (levAts L lv : sProp 𝕄) ⊢ MayWait (c : Thread nD τ) sm () O := by
  rcases hO with rfl | rfl
  · exact mayWait_lt c sm _ 0 (by rw [h]; exact le_refl _) (by decide)
  · rw [MayWait_zero]; iintro -; iempintro

theorem waits (c : Dev nD) : (levAts L lv : sProp 𝕄) ⊢ Pipeline.cellsWaits cfgs (dats (F := F) m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the sixteen devices
    terminates, each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# The frames

The kernel's two programs have one text, so one run serves both: its arrays read at the end, the values dropped.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- At the end of the run the operands of every device are as they were. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats (F := F) m ρ 0 c).arrAt_in (0 : Fin 5) rfl _),
    (h c (1 : Fin 5)).trans ((dats (F := F) m ρ 0 c).arrAt_in (1 : Fin 5) rfl _),
    (h c (2 : Fin 5)).trans ((dats (F := F) m ρ 0 c).arrAt_in (2 : Fin 5) rfl _),
    (h c (3 : Fin 5)).trans ((dats (F := F) m ρ 0 c).arrAt_in (3 : Fin 5) rfl _)⟩

/-- The run with its values dropped, at any float values. -/
theorem frame_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m ρ h.1 c, h.2⟩) (run_main (F := F) m ρ)

theorem frame_kernelIdeal : Cert.quiescent_KernelIdeal := fun m ρ _ => frame_any (F := Ideal) m ρ

/-- The two printed kernels have one body table: both label's bodies are one text. -/
theorem defs₀_eq : Cert.Kernel.defs₀ (F := Bits) = Cert.KernelIdeal.defs₀ (F := Bits) := by
  refine congrArg (Defs.onTc (nD := nD) (τ := τ) (sig := sig) (Val := Elt Bits) (Λ := Λ₀)) (funext fun l => ?_)
  match l with
  | 0 => exact funext fun a => rfl

theorem defs_eq : Cert.Kernel.defs (F := Bits) = Cert.KernelIdeal.defs (F := Bits) :=
  congrArg (Pipeline.defs (pcfgs (F := Bits))) defs₀_eq

/-- The kernel's program is the same text, read at the machine's floats. -/
theorem frame_kernel : Cert.quiescent_Kernel := by
  intro m ρ _
  rw [defs_eq]
  exact frame_any (F := Bits) m ρ

/-- The reference is a straight line of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Route.lean ====
/-
# The routing weights over the extended reals

The kernel weighs a token's experts by comparing each gate with the largest and the second largest.  Where these two are
finite and no other gate reaches the second, the weights are the softmax of the two, and every other weight is zero.
-/
module

public import Idealize.ShloMosaic.Lib.IdealHost
public import Idealize.ShloMosaic.Lib.ValueIdx

@[expose] public section

noncomputable section

namespace Cert.Moe

open Idealize.ShloMosaic

/-- The largest of the four gates. -/
def top1 (g : Fin 4 → EReal) : EReal := (Finset.univ : Finset (Fin 4)).fold max ⊥ g
/-- The largest of the gates below the largest. -/
def top2 (g : Fin 4 → EReal) : EReal := top1 fun l => if top1 g ≤ g l then ⊥ else g l
/-- The weight of the largest gate. -/
def wTop (g : Fin 4 → EReal) : EReal := Ideal.div 1 (1 + Ideal.exp (top2 g - top1 g))
/-- The weight the kernel gives to expert `l`. -/
def weight (g : Fin 4 → EReal) (l : Fin 4) : EReal :=
  if top1 g ≤ g l then wTop g else if top2 g ≤ g l then 1 - wTop g else 0

/-- `a` has the largest gate, `b` the second largest, both finite, and every other gate is smaller. -/
structure Routed (g : Fin 4 → EReal) (a b : Fin 4) : Prop where
  fin : g a < ⊤
  lt : g b < g a
  rest : ∀ e, e ≠ a → e ≠ b → g e < g b
  bot : ⊥ < g b

variable {g : Fin 4 → EReal} {a b : Fin 4}

theorem Routed.ne (h : Routed g a b) : a ≠ b := by
  rintro rfl
  exact lt_irrefl _ h.lt

theorem top1_eq {f : Fin 4 → EReal} (a : Fin 4) (h : ∀ e, f e ≤ f a) : top1 f = f a := by
  refine le_antisymm ?_ ?_
  · exact Finset.fold_max_le _ |>.mpr ⟨bot_le, fun e _ => h e⟩
  · exact Finset.le_fold_max _ |>.mpr (Or.inr ⟨a, Finset.mem_univ _, le_rfl⟩)

theorem Routed.le (h : Routed g a b) (e : Fin 4) (he : e ≠ a) : g e ≤ g b := by
  by_cases hb : e = b
  · rw [hb]
  · exact (h.rest e he hb).le

theorem Routed.top1 (h : Routed g a b) : top1 g = g a :=
  top1_eq a fun e => by
    by_cases he : e = a
    · rw [he]
    · exact (h.le e he).trans h.lt.le

theorem Routed.top2 (h : Routed g a b) : top2 g = g b := by
  unfold Moe.top2
  rw [top1_eq b]
  · rw [h.top1, if_neg (not_le.2 h.lt)]
  · intro e
    simp only [h.top1, if_neg (not_le.2 h.lt)]
    by_cases he : e = a
    · rw [he, if_pos le_rfl]; exact bot_le
    · rw [if_neg (not_le.2 ((h.le e he).trans_lt h.lt))]; exact h.le e he

/-- The softmax of the two largest gates. -/
def soft (x y z : EReal) : EReal := Ideal.div (Ideal.exp (z - x)) (Ideal.exp (x - x) + Ideal.exp (y - x))

theorem exp_coe (r : ℝ) : Ideal.exp (r : EReal) = (Real.exp r : EReal) := rfl

theorem div_pos_coe (r s : ℝ) (h : s ≠ 0) : Ideal.div (r : EReal) (s : EReal) = ((r / s : ℝ) : EReal) := by
  rw [Ideal.div_coe h, ← EReal.coe_mul]
  congr 1
  ring

theorem Routed.reals (h : Routed g a b) : ∃ r s : ℝ, g a = r ∧ g b = s := by
  have ha : g a ≠ ⊥ := fun e => by have := h.lt; rw [e] at this; exact not_lt_bot this
  have hb : g b ≠ ⊤ := fun e => by have := h.lt; rw [e] at this; exact not_top_lt this
  exact ⟨(g a).toReal, (g b).toReal, (EReal.coe_toReal h.fin.ne ha).symm, (EReal.coe_toReal hb h.bot.ne').symm⟩

theorem Routed.weight_fst (h : Routed g a b) : weight g a = soft (g a) (g b) (g a) := by
  obtain ⟨r, s, ha, hb⟩ := h.reals
  unfold weight wTop soft
  rw [h.top1, h.top2, if_pos le_rfl, ha, hb, ← EReal.coe_sub, ← EReal.coe_sub, exp_coe, exp_coe, sub_self, Real.exp_zero,
    EReal.coe_one]

theorem Routed.weight_snd (h : Routed g a b) : weight g b = soft (g a) (g b) (g b) := by
  obtain ⟨r, s, ha, hb⟩ := h.reals
  unfold weight wTop soft
  rw [h.top1, h.top2, if_neg (not_le.2 h.lt), if_pos le_rfl, ha, hb, ← EReal.coe_sub, ← EReal.coe_sub, exp_coe, exp_coe,
    sub_self, Real.exp_zero, ← EReal.coe_one, ← EReal.coe_add]
  have hq : (1 + Real.exp (s - r)) ≠ 0 := by positivity
  rw [div_pos_coe _ _ hq, div_pos_coe _ _ hq, ← EReal.coe_sub]
  congr 1
  field_simp
  ring

theorem Routed.weight_rest (h : Routed g a b) (e : Fin 4) (ha : e ≠ a) (hb : e ≠ b) : weight g e = 0 := by
  unfold weight
  rw [h.top1, h.top2, if_neg (not_le.2 ((h.le e ha).trans_lt h.lt)), if_neg (not_le.2 (h.rest e ha hb))]

/-- The weighted sum over all experts is the softmax-weighted sum of the two chosen ones. -/
theorem Routed.sum (h : Routed g a b) (E : Fin 4 → EReal) :
    ∑ e, E e * weight g e = E a * soft (g a) (g b) (g a) + E b * soft (g a) (g b) (g b) := by
  rw [Fintype.sum_eq_add a b h.ne fun e he => by rw [h.weight_rest e he.1 he.2, mul_zero], h.weight_fst, h.weight_snd]

theorem top1_perm (g : Fin 4 → EReal) (p : Equiv.Perm (Fin 4)) : top1 (g ∘ p) = top1 g := by
  refine le_antisymm ?_ ?_
  · exact Finset.fold_max_le _ |>.mpr ⟨bot_le, fun e _ => Finset.le_fold_max _ |>.mpr (Or.inr ⟨p e, Finset.mem_univ _, le_rfl⟩)⟩
  · refine Finset.fold_max_le _ |>.mpr ⟨bot_le, fun e _ => Finset.le_fold_max _ |>.mpr (Or.inr ⟨p.symm e, Finset.mem_univ _, ?_⟩)⟩
    simp

theorem top2_perm (g : Fin 4 → EReal) (p : Equiv.Perm (Fin 4)) : top2 (g ∘ p) = top2 g := by
  unfold top2
  rw [top1_perm]
  exact top1_perm (fun l => if top1 g ≤ g l then ⊥ else g l) p

/-- The weights do not depend on the order in which the gates are laid out. -/
theorem weight_perm (g : Fin 4 → EReal) (p : Equiv.Perm (Fin 4)) (l : Fin 4) : weight (g ∘ p) l = weight g (p l) := by
  unfold weight wTop
  rw [top1_perm, top2_perm]
  rfl

end Cert.Moe

end
-- ==== Proof.TopGates.lean ====
/-
# The largest gates of a token

The stable sort of a token's four gates, greater first, as one permutation: what the first entries of the sorted gates and
of their positions are, and when the first two are the two that the kernel weighs.
-/
module

public import Idealize.ShloMosaic.Lib.SortFacts
public import Idealize.ShloMosaic.Lib.Pipeline.Value
public import proofs.«01_k».proof.Proof.Route

@[expose] public section

noncomputable section

namespace Cert.Moe

open Idealize.ShloMosaic Idealize.ShloMosaic.ValueIdx

/-- The comparison by which the gates are sorted. -/
abbrev gtB (g : Fin 4 → EReal) (k k' : Fin 4) : Bool := FloatOps.cmpfTotal (F := Ideal) (φ := .f32) .gt (g k) (g k') == 1#1

/-- The expert at each place of the sorted gates. -/
def order (g : Fin 4 → EReal) : Fin 4 → Fin 4 := sortedFrom (gtB g)

theorem gtB_iff (g : Fin 4 → EReal) (k k' : Fin 4) : gtB g k k' = true ↔ g k' < g k := by
  show (BitVec.ofBool (decide (g k' < g k)) == 1#1) = true ↔ _
  by_cases h : g k' < g k <;> simp [h]

theorem order_le (g : Fin 4 → EReal) (i j : Fin 4) (h : i < j) : g (order g j) ≤ g (order g i) := by
  have := sortedFrom_noInversion (gtB g) (gtB g)
    (fun a b hab => by
      rw [gtB_iff] at hab
      exact Bool.eq_false_iff.2 fun hba => lt_asymm hab ((gtB_iff g b a).1 hba))
    (fun a b hab => hab)
    (fun a b c hab hbc => Bool.eq_false_iff.2 fun hac => by
      have h1 : ¬ g b < g a := fun hlt => by rw [(gtB_iff g a b).2 hlt] at hab; exact absurd hab (by decide)
      have h2 : ¬ g c < g b := fun hlt => by rw [(gtB_iff g b c).2 hlt] at hbc; exact absurd hbc (by decide)
      exact absurd ((gtB_iff g a c).1 hac) (not_lt.2 ((not_lt.1 h1).trans (not_lt.1 h2))))
    i j h
  exact not_lt.1 fun hlt => by
    have h' := (gtB_iff g (order g j) (order g i)).2 hlt
    exact absurd (h'.symm.trans this) (by decide)

/-- With a finite largest gate and the first three sorted gates strictly falling, the first two places are the two experts
that the kernel weighs. -/
theorem routed_order (g : Fin 4 → EReal) (h0 : g (order g 0) < ⊤) (h1 : g (order g 1) < g (order g 0))
    (h2 : g (order g 2) < g (order g 1)) : Routed g (order g 0) (order g 1) where
  fin := h0
  lt := h1
  bot := bot_le.trans_lt h2
  rest := by
    intro e ha hb
    obtain ⟨k, rfl⟩ := sortedFrom_surjective (gtB g) e
    change order g k ≠ _ at ha
    change order g k ≠ _ at hb
    change g (order g k) < _
    have hk0 : k ≠ 0 := by rintro rfl; exact ha rfl
    have hk1 : k ≠ 1 := by rintro rfl; exact hb rfl
    have hk : ∀ l : Fin 4, l ≠ 0 → l ≠ 1 → l = 2 ∨ 2 < l := by decide
    replace hk := hk k hk0 hk1
    rcases hk with rfl | hk
    · exact h2
    · exact (order_le g 2 k hk).trans_lt h2

theorem along_one (t : Fin 512) (e : Fin 4) (h : 1 < (⟨2, ![512, 4]⟩ : Shape).rank) (f : Fin 4) :
    Shape.Idx.along (s := ⟨2, ![512, 4]⟩) (ix2 t e) ⟨1, h⟩ f = ix2 t f := by
  funext a
  match a with
  | ⟨0, _⟩ => rfl
  | ⟨1, _⟩ => rfl

variable {n : Nat}

/-- The sorted gates' first entries. -/
theorem topK_fst (hn : n ≤ 4) (x : (⟨2, ![512, 4]⟩ : Shape).Idx → Ideal .f32)
    (h : (⟨2, ![512, 4]⟩ : Shape).Slices (fun _ => 0) ⟨2, ![512, n]⟩) (t : Fin 512) (k : Fin n) :
    (Host.topK ⟨2, ![512, n]⟩ 1 (FloatOps.cmpfTotal (F := Ideal) (φ := .f32) .gt) x h).1 (ix2 t k)
      = x (ix2 t (order (fun e => x (ix2 t e)) (k.castLE hn))) := by
  unfold Host.topK Host.sort2 order
  simp only [dif_pos (show 1 < (⟨2, ![512, 4]⟩ : Shape).rank by decide)]
  rw [extractStridedSlice_apply (fun _ => 0) _ h (ix2 t k) (ix2 t (k.castLE hn)) (fun a => by
    match a with
    | ⟨0, _⟩ => exact (Nat.zero_add _).symm
    | ⟨1, _⟩ => exact (Nat.zero_add _).symm)]
  refine congrArg x ((along_one t (k.castLE hn) (by decide) _).trans (congrArg (ix2 t) ?_))
  refine congrArg (fun R => sortedFrom R (k.castLE hn)) (funext fun a => funext fun b => ?_)
  exact congrArg₂ (fun p q => FloatOps.cmpfTotal (F := Ideal) (φ := .f32) .gt p q == 1#1)
    (congrArg x (along_one t (k.castLE hn) (by decide) a)) (congrArg x (along_one t (k.castLE hn) (by decide) b))

/-- Their positions. -/
theorem topK_snd (hn : n ≤ 4) (x : (⟨2, ![512, 4]⟩ : Shape).Idx → Ideal .f32)
    (h : (⟨2, ![512, 4]⟩ : Shape).Slices (fun _ => 0) ⟨2, ![512, n]⟩) (t : Fin 512) (k : Fin n) :
    (Host.topK ⟨2, ![512, n]⟩ 1 (FloatOps.cmpfTotal (F := Ideal) (φ := .f32) .gt) x h).2 (ix2 t k)
      = BitVec.ofNat 32 (order (fun e => x (ix2 t e)) (k.castLE hn)).val := by
  unfold Host.topK Host.sort2 order
  simp only [dif_pos (show 1 < (⟨2, ![512, 4]⟩ : Shape).rank by decide)]
  rw [extractStridedSlice_apply (fun _ => 0) _ h (ix2 t k) (ix2 t (k.castLE hn)) (fun a => by
    match a with
    | ⟨0, _⟩ => exact (Nat.zero_add _).symm
    | ⟨1, _⟩ => exact (Nat.zero_add _).symm)]
  refine congrArg (fun e : Fin 4 => BitVec.ofNat 32 e.val) (?_ : sortedFrom _ (k.castLE hn) = _)
  refine congrArg (fun R => sortedFrom R (k.castLE hn)) (funext fun a => funext fun b => ?_)
  exact congrArg₂ (fun p q => FloatOps.cmpfTotal (F := Ideal) (φ := .f32) .gt p q == 1#1)
    (congrArg x (along_one t (k.castLE hn) (by decide) a)) (congrArg x (along_one t (k.castLE hn) (by decide) b))

end Cert.Moe

end
-- ==== Proof.Spec.lean ====
/-
# What one token gets

The gates of a token, the two-layer network of one expert, and the weighted sum of the experts' results.
-/
module

public import proofs.«01_k».proof.Proof.TopGates

@[expose] public section

noncomputable section

namespace Cert.Moe

open Idealize.ShloMosaic Idealize.ShloMosaic.ValueIdx

/-- A token's row times one column of the router. -/
def gateOf (x : Fin 512 → EReal) (R : Fin 512 → EReal) : EReal := ∑ k, x k * R k

/-- One column of an expert's result on a token's row: the rows' products, cut below at zero, through the second layer. -/
def mlp (x : Fin 512 → EReal) (A : Fin 512 → Fin 1024 → EReal) (B : Fin 1024 → EReal) : EReal :=
  ∑ f, max (∑ k, x k * A k f) 0 * B f

/-- The whole arrays' gate of token `t` for expert `e`. -/
def gate (X : (⟨2, ![512, 512]⟩ : Shape).Idx → EReal) (R : (⟨2, ![512, 4]⟩ : Shape).Idx → EReal) (t : Fin 512) (e : Fin 4) : EReal :=
  gateOf (fun k => X (ix2 t k)) (fun k => R (ix2 k e))

/-- The whole arrays' column `j` of expert `e`'s result on token `t`. -/
def expert (X : (⟨2, ![512, 512]⟩ : Shape).Idx → EReal) (U : (⟨3, ![4, 512, 1024]⟩ : Shape).Idx → EReal)
    (V : (⟨3, ![4, 1024, 512]⟩ : Shape).Idx → EReal) (t : Fin 512) (j : Fin 512) (e : Fin 4) : EReal :=
  mlp (fun k => X (ix2 t k)) (fun k f => U (ix3 e k f)) (fun f => V (ix3 e f j))

theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

end Cert.Moe

end
-- ==== Proof.KernelParts.lean ====
/-
# The kernel's values, one element

What each value the kernel's body computes is at an index, over the extended reals.
-/
module

public import Idealize.ShloMosaic.Lib.MatmulPlain
public import Idealize.ShloMosaic.Lib.WordCmp
public import proofs.«01_k».proof.Proof.Spec
public import proofs.«01_k».proof.Proof.Gen.KernelIdeal.Skeleton

@[expose] public section

noncomputable section

namespace Cert.Moe.Ker

open Cert.KernelIdeal Cert.KernelIdeal.Gen
open Idealize.ShloMosaic Idealize.ShloMosaic.ValueIdx

/-- One column of an expert's result on row `t` of a block of `n` rows. -/
def ffnAt {n : ℕ} (x : (⟨2, ![n, 512]⟩ : Shape).Idx → EReal) (A : S1x512x1024.Idx → EReal) (B : S1x1024x512.Idx → EReal)
    (t : Fin n) (j : Fin 512) : EReal :=
  mlp (fun k => x (ix2 t k)) (fun k f => A (ix3 0 k f)) (fun f => B (ix3 0 f j))

/-- The kernel's two products with the cut at zero between them are an expert's network. -/
theorem ffn {n : ℕ} (x : FVec Ideal ⟨2, ![n, 512]⟩ .bf16) (A : FVec Ideal S1x512x1024 .bf16) (B : FVec Ideal S1x1024x512 .bf16)
    (hb : FTy.bits .bf16 < FTy.bits .f32) (t : Fin n) (j : Fin 512) :
    matmul (F := Ideal) (DotDims.plain n 1024 512) none
      (truncf .bf16 (maximumf (matmul (F := Ideal) (DotDims.plain n 512 1024) none x
          (shapeCast S512x1024 A shapeCasts_S1x512x1024_S512x1024) (constant ⟨2, ![n, 1024]⟩ .f32 0x00000000#32))
        (broadcast ⟨2, ![n, 1024]⟩ (Scalar.ofBits (F := Ideal) .f32 0x00000000#32))) hb)
      (shapeCast S1024x512 B shapeCasts_S1x1024x512_S1024x512) (constant ⟨2, ![n, 512]⟩ .f32 0x00000000#32) (ix2 t j)
      = ffnAt x A B t j := by
  refine (Ideal.matmul_plain_apply none _ _ _ t j).trans ?_
  have z : ∀ {s : Shape} (i : s.Idx), (constant (F := Ideal) s .f32 0x00000000#32) i = (0 : EReal) := fun i => Ideal.ofBits_zero_f32
  rw [z, zero_add]
  unfold ffnAt mlp
  refine Finset.sum_congr rfl fun f _ => congrArg₂ (· * ·) ?_ ?_
  · show max (matmul (F := Ideal) (DotDims.plain n 512 1024) none x _ _ (ix2 t f)) (Ideal.ofBits .f32 0x00000000#32) = _
    rw [Ideal.ofBits_zero_f32]
    refine congrArg (max · 0) ((Ideal.matmul_plain_apply none _ _ _ t f).trans ?_)
    rw [z, zero_add]
    refine Finset.sum_congr rfl fun k _ => congrArg (x (ix2 t k) * ·) ?_
    refine (shapeCast_dropUnit_apply ![512, 1024] A _ (ix2 k f)).trans (congrArg A ?_)
    exact funext fun a => match a with | ⟨0, _⟩ => rfl | ⟨1, _⟩ => rfl | ⟨2, _⟩ => rfl
  · refine (shapeCast_dropUnit_apply ![1024, 512] B _ (ix2 f j)).trans (congrArg B ?_)
    exact funext fun a => match a with | ⟨0, _⟩ => rfl | ⟨1, _⟩ => rfl | ⟨2, _⟩ => rfl

/-- A column of weights spread over the row. -/
theorem spread {n c d : ℕ} (hn : n ≠ 1) (e : Fin c) (w : (⟨2, ![n, c]⟩ : Shape).Idx → EReal)
    (hs : (⟨2, ![n, c]⟩ : Shape).Slices ![0, e.val] ⟨2, ![n, 1]⟩) (hb : (⟨2, ![n, 1]⟩ : Shape).Broadcasts ⟨2, ![n, d]⟩)
    (t : Fin n) (j : Fin d) :
    broadcastTo ⟨2, ![n, d]⟩ (extractStridedSlice ⟨2, ![n, 1]⟩ ![0, e.val] w hs) hb (ix2 t j) = w (ix2 t e) := by
  refine (broadcastTo_apply _ hb (ix2 t j) (ix2 t 0) (fun a => match a with
    | ⟨0, _⟩ => (if_neg hn).symm
    | ⟨1, _⟩ => (if_pos rfl).symm)).trans ?_
  exact extractStridedSlice_apply _ w hs (ix2 t 0) (ix2 t e) (fun a => match a with
    | ⟨0, _⟩ => (Nat.zero_add _).symm
    | ⟨1, _⟩ => rfl)

/-! ## The copied blocks -/

theorem pay1_apply (r : S512x2.Idx → EReal) (e : Fin 2) (k : Fin 512) : k0_pay1 (F := Ideal) r (ix2 e k) = r (ix2 k e) := by
  unfold k0_pay1
  simp only [shapeCast_self]
  exact transpose_apply _ r _ (ix2 e k) (ix2 k e) fun b => match b with | ⟨0, _⟩ => rfl | ⟨1, _⟩ => rfl

theorem pay2_eq (x : S256x512.Idx → EReal) : k0_pay2 (F := Ideal) x = x := by
  unfold k0_pay2
  simp only [shapeCast_self]
  rfl

theorem pay3_eq (x : S256x512.Idx → EReal) : k0_pay3 (F := Ideal) x = x := by
  unfold k0_pay3
  simp only [shapeCast_self]

theorem pay8_eq (x : S2x512x1024.Idx → EReal) : k0_pay8 (F := Ideal) x = x := by
  unfold k0_pay8
  simp only [shapeCast_self]
  rfl

theorem pay9_eq (x : S2x1024x512.Idx → EReal) : k0_pay9 (F := Ideal) x = x := by
  unfold k0_pay9
  simp only [shapeCast_self]
  rfl

/-! ## The gates -/

theorem pay4_apply (x : S256x512.Idx → EReal) (r : S512x2.Idx → EReal) (t : Fin 256) (e : Fin 2) :
    k0_pay4 (F := Ideal) x r (ix2 t e) = gateOf (fun k => x (ix2 t k)) (fun k => r (ix2 k e)) := by
  unfold k0_pay4
  simp only [shapeCast_self, pay3_eq]
  refine (Ideal.matmul_plain_apply _ _ _ _ t e).trans ?_
  rw [show (constant (F := Ideal) ⟨2, ![256, 2]⟩ .f32 0x00000000#32) (ix2 t e) = (0 : EReal) from Ideal.ofBits_zero_f32, zero_add]
  rfl

theorem pay5_apply (x : S256x512.Idx → EReal) (r : S2x512.Idx → EReal) (t : Fin 256) (e : Fin 2) :
    k0_pay5 (F := Ideal) x r (ix2 t e) = gateOf (fun k => x (ix2 t k)) (fun k => r (ix2 e k)) := by
  unfold k0_pay5
  simp only [pay3_eq]
  refine (Ideal.matmul_transposedRhs_apply _ _ _ _ t e).trans ?_
  rw [show (constant (F := Ideal) ⟨2, ![256, 2]⟩ .f32 0x00000000#32) (ix2 t e) = (0 : EReal) from Ideal.ofBits_zero_f32, zero_add]
  rfl

/-! ## The weights -/

/-- A token's four gates: the two of the device's own experts, then the two of its peer's. -/
def four (a b : S256x2.Idx → EReal) (t : Fin 256) (l : Fin 4) : EReal :=
  if h : l.val < 2 then a (ix2 t ⟨l.val, h⟩) else b (ix2 t ⟨l.val - 2, by omega⟩)

theorem joined (a b : FVec Ideal S256x2 .f32) (t : Fin 256) (l : Fin 4) :
    concatenate S256x4 1 [⟨S256x2, a⟩, ⟨S256x2, b⟩] concatenates_S256x2_S256x2_S256x4_d1 (ix2 t l) = four a b t l := by
  unfold four
  by_cases h : l.val < 2
  · rw [dif_pos h]
    exact concatenate_pair_apply_left _ a b _ (ix2 t l) rfl (ix2 t ⟨l.val, h⟩) fun c => match c with | ⟨0, _⟩ => rfl | ⟨1, _⟩ => rfl
  · rw [dif_neg h]
    exact concatenate_pair_apply_right _ a b _ (ix2 t l) rfl rfl (ix2 t ⟨l.val - 2, by omega⟩)
      (fun c => match c with | ⟨0, _⟩ => fun _ => rfl | ⟨1, _⟩ => fun hc => absurd rfl hc)
      (by show l.val - 2 + 2 = l.val; omega)

/-- The largest of a row's four entries, spread over the row. -/
theorem rowMax (v : FVec Ideal S256x4 .f32) (t : Fin 256) :
    shapeCast S256x1 (multiReduction (F := Ideal) (φ := .f32) .maximumf [1] S256 v 0xFF800000#32 reduces_S256x4_S256 (.inl rfl) rfl)
      shapeCasts_S256_S256x1 (ix2 t 0) = top1 fun l => v (ix2 t l) := by
  refine (shapeCast_apply _ shapeCasts_S256_S256x1 (ix2 t 0) (ix1 t) (by
    rw [Shape.rowMajor_val_one, Shape.rowMajor_val_two]; show t.val = t.val * 1 + 0; omega)).trans ?_
  refine (Ideal.multiReduction_maximumf_single _ _ _ _ _ _).trans ?_
  refine (congrArg (fun z => Finset.fold max z _ _) ofBits_negInf).trans ?_
  unfold top1
  refine congrArg (fun f => (Finset.univ : Finset (Fin 4)).fold max ⊥ f) (funext fun l => congrArg v ?_)
  exact funext fun a => match a with | ⟨0, _⟩ => rfl | ⟨1, _⟩ => rfl

theorem spread4 {α : Type} (w : S256x1.Idx → α) (t : Fin 256) (l : Fin 4) :
    broadcastTo S256x4 w broadcasts_S256x1_S256x4 (ix2 t l) = w (ix2 t 0) :=
  broadcastTo_apply _ _ (ix2 t l) (ix2 t 0) fun a => match a with
    | ⟨0, _⟩ => rfl
    | ⟨1, _⟩ => rfl

theorem ofBits_one : Ideal.ofBits .f32 0x3F800000#32 = (1 : EReal) := Ideal.ofBits_one_f32

theorem selGe (u v : EReal) (i : S256x4.Idx) (a b : FVec Ideal S256x4 .f32) :
    Scalar.select (cmpf (F := Ideal) (φ := .f32) .oge a b i) u v = if b i ≤ a i then u else v :=
  WordCmp.select_decide (b i ≤ a i) u v

/-- The kernel's weights are the routing weights of the token's four gates. -/
theorem pay6_apply (a b : S256x2.Idx → EReal) (t : Fin 256) (l : Fin 4) :
    k0_pay6 (F := Ideal) a b (ix2 t l) = weight (four a b t) l := by
  have e1 : ∀ (v : FVec Ideal S256x1 .f32) (i : S256x1.Idx), exp (F := Ideal) (φ := .f32) v i = Ideal.exp (v i) := fun _ _ => rfl
  have e2 : ∀ (v w : FVec Ideal S256x1 .f32) (i : S256x1.Idx), divf (F := Ideal) (φ := .f32) v w i = Ideal.div (v i) (w i) := fun _ _ _ => rfl
  have e3 : ∀ (v w : FVec Ideal S256x1 .f32) (i : S256x1.Idx), addf (F := Ideal) (φ := .f32) v w i = v i + w i := fun _ _ _ => rfl
  have e4 : ∀ (v w : FVec Ideal S256x1 .f32) (i : S256x1.Idx), subf (F := Ideal) (φ := .f32) v w i = v i - w i := fun _ _ _ => rfl
  have e5 : ∀ {s : Shape} (z : EReal) (i : s.Idx), broadcast s z i = z := fun _ _ => rfl
  have e6 : ∀ w : BitVec 32, Scalar.ofBits (F := Ideal) .f32 w = Ideal.ofBits .f32 w := fun _ => rfl
  unfold k0_pay6
  simp only [shapeCast_self, select_apply, selGe, spread4, e1, e2, e3, e4, e5, e6, rowMax, joined, ofBits_one, ofBits_negInf,
    Ideal.ofBits_zero_f32]
  rw [rowMax, rowMax]
  simp only [joined, select_apply, selGe, spread4]
  rw [rowMax]
  simp only [joined]
  rfl

theorem pay7_apply (a b : S256x2.Idx → EReal) (e : Fin 2) (t : Fin 256) :
    k0_pay7 (F := Ideal) a b (ix2 e t) = weight (four a b t) ⟨2 + e.val, by omega⟩ := by
  unfold k0_pay7
  simp only [shapeCast_self]
  refine (transpose_apply _ _ _ (ix2 e t) (ix2 t e) fun b => match b with | ⟨0, _⟩ => rfl | ⟨1, _⟩ => rfl).trans ?_
  refine (extractStridedSlice_apply _ _ _ (ix2 t e) (ix2 t ⟨2 + e.val, by omega⟩) fun c => match c with
    | ⟨0, _⟩ => (Nat.zero_add _).symm
    | ⟨1, _⟩ => rfl).trans (pay6_apply a b t _)

theorem pay10_apply (w : S2x256.Idx → EReal) (t : Fin 256) (e : Fin 2) : k0_pay10 (F := Ideal) w (ix2 t e) = w (ix2 e t) := by
  unfold k0_pay10
  exact transpose_apply _ w _ (ix2 t e) (ix2 e t) fun b => match b with | ⟨0, _⟩ => rfl | ⟨1, _⟩ => rfl

theorem pay16_apply (w : S256x4.Idx → EReal) (t : Fin 256) (e : Fin 2) :
    k0_pay16 (F := Ideal) w (ix2 t e) = w (ix2 t (e.castLE (by decide))) := by
  unfold k0_pay16
  exact extractStridedSlice_apply _ w _ (ix2 t e) (ix2 t (e.castLE (by decide))) fun c => match c with
    | ⟨0, _⟩ => (Nat.zero_add _).symm
    | ⟨1, _⟩ => (Nat.zero_add _).symm

/-! ## The experts' results -/

/-- The first half of the rows of a column of weights. -/
theorem loRows (w : S256x2.Idx → EReal) (t : Fin 128) (e : Fin 2) :
    extractStridedSlice S128x2 ![0, 0] w slices_S256x2_o0_0_S128x2 (ix2 t e) = w (ix2 (t.castLE (by decide)) e) :=
  extractStridedSlice_apply _ w _ (ix2 t e) (ix2 (t.castLE (by decide)) e) fun c => match c with
    | ⟨0, _⟩ => (Nat.zero_add _).symm
    | ⟨1, _⟩ => (Nat.zero_add _).symm

/-- The second half of the rows. -/
theorem pay12_apply (w : S256x2.Idx → EReal) (t : Fin 128) (e : Fin 2) :
    k0_pay12 (F := Ideal) w (ix2 t e) = w (ix2 ⟨128 + t.val, by omega⟩ e) := by
  unfold k0_pay12
  exact extractStridedSlice_apply _ w _ (ix2 t e) (ix2 ⟨128 + t.val, by omega⟩ e) fun c => match c with
    | ⟨0, _⟩ => rfl
    | ⟨1, _⟩ => (Nat.zero_add _).symm

section
variable (A C : S1x512x1024.Idx → EReal) (B D : S1x1024x512.Idx → EReal)

/-- What a peer returns for the first half of the rows: two experts' results, weighted. -/
theorem pay11_apply (w : S256x2.Idx → EReal) (x : S128x512.Idx → EReal) (t : Fin 128) (j : Fin 512) :
    k0_pay11 (F := Ideal) w x A B C D (ix2 t j)
      = ffnAt x A B t j * w (ix2 (t.castLE (by decide)) 0) + ffnAt x C D t j * w (ix2 (t.castLE (by decide)) 1) := by
  unfold k0_pay11
  simp only [shapeCast_self]
  refine congrArg₂ (· + ·) (congrArg₂ (· * ·) (ffn x A B _ t j) ?_) (congrArg₂ (· * ·) (ffn x C D _ t j) ?_)
  · exact (spread (by decide) 0 _ _ _ t j).trans (loRows w t 0)
  · exact (spread (by decide) 1 _ _ _ t j).trans (loRows w t 1)

theorem pay13_apply (w : S256x2.Idx → EReal) (x : S128x512.Idx → EReal) (t : Fin 128) (j : Fin 512) :
    k0_pay13 (F := Ideal) w x A B (ix2 t j) = ffnAt x A B t j * w (ix2 ⟨128 + t.val, by omega⟩ 0) := by
  unfold k0_pay13
  exact congrArg₂ (· * ·) (ffn x A B _ t j) ((spread (by decide) 0 _ _ _ t j).trans (pay12_apply w t 0))

theorem pay14_apply (x : S128x512.Idx → EReal) (t : Fin 128) (j : Fin 512) :
    k0_pay14 (F := Ideal) x A B (ix2 t j) = ffnAt x A B t j := by
  unfold k0_pay14
  exact ffn x A B _ t j

theorem pay15_apply (w : S128x2.Idx → EReal) (u v : S128x512.Idx → EReal) (t : Fin 128) (j : Fin 512) :
    k0_pay15 (F := Ideal) w u v (ix2 t j) = u (ix2 t j) + v (ix2 t j) * w (ix2 t 1) := by
  unfold k0_pay15
  simp only [shapeCast_self]
  exact congrArg (u (ix2 t j) + v (ix2 t j) * ·) (spread (by decide) 1 w _ _ t j)

theorem pay17_apply (w : S256x4.Idx → EReal) (x : S256x512.Idx → EReal) (t : Fin 256) (j : Fin 512) :
    k0_pay17 (F := Ideal) w x A B (ix2 t j) = ffnAt x A B t j * w (ix2 t 0) := by
  unfold k0_pay17
  exact congrArg₂ (· * ·) (ffn x A B _ t j) ((spread (by decide) 0 _ _ _ t j).trans (pay16_apply w t 0))

theorem pay18_apply (x : S256x512.Idx → EReal) (w : S256x2.Idx → EReal) (u : S256x512.Idx → EReal) (t : Fin 256) (j : Fin 512) :
    k0_pay18 (F := Ideal) x w u A B (ix2 t j) = u (ix2 t j) + ffnAt x A B t j * w (ix2 t 1) := by
  unfold k0_pay18
  exact congrArg (u (ix2 t j) + ·) (congrArg₂ (· * ·) (ffn x A B _ t j) (spread (by decide) 1 w _ _ t j))

theorem pay19_apply (x : S256x512.Idx → EReal) (w : S256x2.Idx → EReal) (u : S256x512.Idx → EReal) (p : S128x512.Idx → EReal)
    (t : Fin 128) (j : Fin 512) :
    k0_pay19 (F := Ideal) x w u A B p (ix2 t j)
      = u (ix2 (t.castLE (by decide)) j) + ffnAt x A B (t.castLE (by decide)) j * w (ix2 (t.castLE (by decide)) 1) + p (ix2 t j) := by
  unfold k0_pay19
  refine congrArg (· + p (ix2 t j)) ?_
  refine (extractStridedSlice_apply _ _ _ (ix2 t j) (ix2 (t.castLE (by decide)) j) fun c => match c with
    | ⟨0, _⟩ => (Nat.zero_add _).symm
    | ⟨1, _⟩ => (Nat.zero_add _).symm).trans ?_
  exact pay18_apply A B x w u _ j

theorem pay20_apply (u : S256x512.Idx → EReal) (p : S128x512.Idx → EReal) (t : Fin 128) (j : Fin 512) :
    k0_pay20 (F := Ideal) u p (ix2 t j) = u (ix2 ⟨128 + t.val, by omega⟩ j) + p (ix2 t j) := by
  unfold k0_pay20
  refine congrArg (· + p (ix2 t j)) ?_
  exact extractStridedSlice_apply _ _ _ (ix2 t j) (ix2 ⟨128 + t.val, by omega⟩ j) fun c => match c with
    | ⟨0, _⟩ => rfl
    | ⟨1, _⟩ => (Nat.zero_add _).symm

end
end Cert.Moe.Ker

end
-- ==== Proof.KernelValue.lean ====
/-
# The kernel's result, one element

What a device's block of the result is at an index: the two experts of its own and the two of its peer, weighted.
-/
module

public import proofs.«01_k».proof.Proof.Frames
public import proofs.«01_k».proof.Proof.KernelParts
public import Idealize.ShloMosaic.Lib.WritesUnit
public import Idealize.ShloMosaic.Lib.Pipeline.ValueKit.Tiles
public import Idealize.ShloMosaic.Lib.Pipeline.ValueKit.Geometry

@[expose] public section

noncomputable section

namespace Cert.Moe

open Cert.KernelIdeal Cert.KernelIdeal.Gen
open Idealize.ShloMosaic Idealize.ShloMosaic.ValueIdx
open Idealize.ShloMosaic.TcCoe
open Idealize.ShloMosaic.Pipeline (Dat Cfg Window)
open Cert.Moe.Ker

section Reads

/-- Expert `e`'s first matrix, loaded from the pair. -/
theorem ex1_apply (X : S2x512x1024.Idx → EReal) (e : Fin 2) (k : Fin 512) (f : Fin 1024) :
    ex1 (F := Ideal) X e (ix3 0 k f) = X (ix3 e k f) := by
  match e with
  | 0 =>
    refine congrArg X (funext fun a => Fin.ext ?_)
    refine (Rect.idx_unit_val _ _ _ _ a).trans ?_
    match a with | ⟨0, _⟩ => rfl | ⟨1, _⟩ => exact Nat.zero_add _ | ⟨2, _⟩ => exact Nat.zero_add _
  | 1 =>
    refine congrArg X (funext fun a => Fin.ext ?_)
    refine (Rect.idx_unit_val _ _ _ _ a).trans ?_
    match a with | ⟨0, _⟩ => rfl | ⟨1, _⟩ => exact Nat.zero_add _ | ⟨2, _⟩ => exact Nat.zero_add _

/-- Expert `e`'s second matrix. -/
theorem ex2_apply (X : S2x1024x512.Idx → EReal) (e : Fin 2) (f : Fin 1024) (j : Fin 512) :
    ex2 (F := Ideal) X e (ix3 0 f j) = X (ix3 e f j) := by
  match e with
  | 0 =>
    refine congrArg X (funext fun a => Fin.ext ?_)
    refine (Rect.idx_unit_val _ _ _ _ a).trans ?_
    match a with | ⟨0, _⟩ => rfl | ⟨1, _⟩ => exact Nat.zero_add _ | ⟨2, _⟩ => exact Nat.zero_add _
  | 1 =>
    refine congrArg X (funext fun a => Fin.ext ?_)
    refine (Rect.idx_unit_val _ _ _ _ a).trans ?_
    match a with | ⟨0, _⟩ => rfl | ⟨1, _⟩ => exact Nat.zero_add _ | ⟨2, _⟩ => exact Nat.zero_add _

/-- The first half of a block of tokens. -/
theorem loH_apply (X : S256x512.Idx → EReal) (t : Fin 128) (k : Fin 512) :
    loH (F := Ideal) X (ix2 t k) = X (ix2 (t.castLE (by decide)) k) := by
  refine congrArg X (funext fun a => Fin.ext ?_)
  refine (Rect.idx_unit_val _ _ _ _ a).trans ?_
  match a with | ⟨0, _⟩ => exact Nat.zero_add _ | ⟨1, _⟩ => exact Nat.zero_add _

/-- The second half. -/
theorem hiH_apply (X : S256x512.Idx → EReal) (t : Fin 128) (k : Fin 512) :
    hiH (F := Ideal) X (ix2 t k) = X (ix2 ⟨128 + t.val, by omega⟩ k) := by
  refine congrArg X (funext fun a => Fin.ext ?_)
  refine (Rect.idx_unit_val _ _ _ _ a).trans ?_
  match a with | ⟨0, _⟩ => rfl | ⟨1, _⟩ => exact Nat.zero_add _

end Reads

variable (m : (ℓ : Loc nD τ sig) → Buf (Elt Ideal) ℓ) (ρ : Dev nD → PrngReg)

/-! ## The operands -/

/-- Device `c`'s operands, as they stand before the run. -/
def X0 (c : Dev nD) : S256x512.Idx → EReal := m ((c : Thread nD τ).loc main_arg0)
def R0 (c : Dev nD) : S512x2.Idx → EReal := m ((c : Thread nD τ).loc main_arg1)
def U0 (c : Dev nD) : S2x512x1024.Idx → EReal := m ((c : Thread nD τ).loc main_arg2)
def V0 (c : Dev nD) : S2x1024x512.Idx → EReal := m ((c : Thread nD τ).loc main_arg3)

theorem xin_eq (c : Dev nD) : xin m ρ c = X0 m c := by
  refine funext fun i => congrArg (X0 m c) (funext fun a => Fin.ext ?_)
  exact Window.rect_emb_val_of_index_zero win0_0 (0 : Fin 1) a ((by decide +kernel : ∀ a, win0_0.index (0 : Fin 1) a = 0) a) i
theorem rin_eq (c : Dev nD) : rin m ρ c = R0 m c := by
  refine funext fun i => congrArg (R0 m c) (funext fun a => Fin.ext ?_)
  exact Window.rect_emb_val_of_index_zero win0_1 (0 : Fin 1) a ((by decide +kernel : ∀ a, win0_1.index (0 : Fin 1) a = 0) a) i
theorem uin_eq (c : Dev nD) : uin m ρ c = U0 m c := by
  refine funext fun i => congrArg (U0 m c) (funext fun a => Fin.ext ?_)
  exact Window.rect_emb_val_of_index_zero win0_2 (0 : Fin 1) a ((by decide +kernel : ∀ a, win0_2.index (0 : Fin 1) a = 0) a) i
theorem vin_eq (c : Dev nD) : vin m ρ c = V0 m c := by
  refine funext fun i => congrArg (V0 m c) (funext fun a => Fin.ext ?_)
  exact Window.rect_emb_val_of_index_zero win0_3 (0 : Fin 1) a ((by decide +kernel : ∀ a, win0_3.index (0 : Fin 1) a = 0) a) i

/-! ## Gates and weights -/

/-- The gates of device `c`'s token `t`: its own two experts, then its peer's two. -/
def hgate (c : Dev nD) (t : Fin 256) (l : Fin 4) : EReal :=
  if h : l.val < 2 then gateOf (fun k => X0 m c (ix2 t k)) (fun k => R0 m c (ix2 k ⟨l.val, h⟩))
  else gateOf (fun k => X0 m c (ix2 t k)) (fun k => R0 m (peer c) (ix2 k ⟨l.val - 2, by omega⟩))

/-- Column `j` of the result of device `d`'s expert `e` on device `c`'s token `t`. -/
def part (c d : Dev nD) (t : Fin 256) (j : Fin 512) (e : Fin 2) : EReal :=
  mlp (fun k => X0 m c (ix2 t k)) (fun k f => U0 m d (ix3 e k f)) (fun f => V0 m d (ix3 e f j))

theorem four_eq (c : Dev nD) (t : Fin 256) : four (gOwn m ρ c) (gPeer m ρ c) t = hgate m c t := by
  funext l
  unfold four hgate
  by_cases h : l.val < 2
  · rw [dif_pos h, dif_pos h]
    refine (pay4_apply _ _ t _).trans ?_
    rw [xin_eq, rin_eq]
  · rw [dif_neg h, dif_neg h]
    refine (pay5_apply _ _ t _).trans ?_
    rw [xin_eq]
    refine congrArg (gateOf _) (funext fun k => ?_)
    refine (pay1_apply _ _ k).trans ?_
    rw [rin_eq]

theorem w4_apply (c : Dev nD) (t : Fin 256) (l : Fin 4) : w4 m ρ c (ix2 t l) = weight (hgate m c t) l :=
  (pay6_apply _ _ t l).trans (congrArg (weight · l) (four_eq m ρ c t))

theorem wIn_apply (c : Dev nD) (t : Fin 256) (e : Fin 2) :
    wIn m ρ c (ix2 t e) = weight (hgate m (peer c) t) ⟨2 + e.val, by omega⟩ :=
  (pay10_apply _ t e).trans ((pay7_apply _ _ e t).trans (congrArg (weight · _) (four_eq m ρ (peer c) t)))

theorem xb_eq (c : Dev nD) : xb m ρ c = X0 m c := (pay2_eq _).trans (xin_eq m ρ c)
theorem ub_eq (c : Dev nD) : ub m ρ c = U0 m c := (pay8_eq _).trans (uin_eq m ρ c)
theorem vb_eq (c : Dev nD) : vb m ρ c = V0 m c := (pay9_eq _).trans (vin_eq m ρ c)

theorem ffn_part (c d : Dev nD) (t : Fin 256) (j : Fin 512) (e : Fin 2) :
    ffnAt (n := 256) (xb m ρ c) (ex1 (ub m ρ d) e) (ex2 (vb m ρ d) e) t j = part m c d t j e := by
  unfold ffnAt part
  rw [xb_eq, ub_eq, vb_eq]
  exact congrArg₂ (mlp _) (funext fun k => funext fun f => ex1_apply _ e k f) (funext fun f => ex2_apply _ e f j)

theorem ffn_lo (c d : Dev nD) (t : Fin 128) (j : Fin 512) (e : Fin 2) :
    ffnAt (n := 128) (loH (xb m ρ c)) (ex1 (ub m ρ d) e) (ex2 (vb m ρ d) e) t j = part m c d (t.castLE (by decide)) j e := by
  refine Eq.trans ?_ (ffn_part m ρ c d _ j e)
  unfold ffnAt
  exact congrArg (fun x => mlp x _ _) (funext fun k => loH_apply _ t k)

theorem ffn_hi (c d : Dev nD) (t : Fin 128) (j : Fin 512) (e : Fin 2) :
    ffnAt (n := 128) (hiH (xb m ρ c)) (ex1 (ub m ρ d) e) (ex2 (vb m ρ d) e) t j = part m c d ⟨128 + t.val, by omega⟩ j e := by
  refine Eq.trans ?_ (ffn_part m ρ c d _ j e)
  unfold ffnAt
  exact congrArg (fun x => mlp x _ _) (funext fun k => hiH_apply _ t k)

/-! ## The result -/

/-- The four weighted parts of one element of device `c`'s result. -/
def total (c : Dev nD) (t : Fin 256) (j : Fin 512) : EReal :=
  (part m c c t j 0 * weight (hgate m c t) 0 + part m c c t j 1 * weight (hgate m c t) 1)
    + (part m c (peer c) t j 0 * weight (hgate m c t) 2 + part m c (peer c) t j 1 * weight (hgate m c t) 3)

theorem own0_apply (c : Dev nD) (t : Fin 256) (j : Fin 512) :
    own0 m ρ c (ix2 t j) = part m c c t j 0 * weight (hgate m c t) 0 :=
  (pay17_apply _ _ _ _ t j).trans (congrArg₂ (· * ·) (ffn_part m ρ c c t j 0) (w4_apply m ρ c t 0))

theorem w16_apply (c : Dev nD) (t : Fin 256) : k0_pay16 (w4 m ρ c) (ix2 t 1) = weight (hgate m c t) 1 :=
  (pay16_apply _ t 1).trans (w4_apply m ρ c t 1)

theorem acc_apply (c : Dev nD) (t : Fin 256) (j : Fin 512) :
    acc m ρ c (ix2 t j) = part m c c t j 0 * weight (hgate m c t) 0 + part m c c t j 1 * weight (hgate m c t) 1 :=
  (pay18_apply _ _ _ _ _ t j).trans (congrArg₂ (· + ·) (own0_apply m ρ c t j)
    (congrArg₂ (· * ·) (ffn_part m ρ c c t j 1) (w16_apply m ρ c t)))

/-- What the peer returns for the first half of device `c`'s tokens. -/
theorem pLo_apply (c : Dev nD) (t : Fin 128) (j : Fin 512) :
    pLo m ρ (peer c) (ix2 t j)
      = part m c (peer c) (t.castLE (by decide)) j 0 * weight (hgate m c (t.castLE (by decide))) 2
        + part m c (peer c) (t.castLE (by decide)) j 1 * weight (hgate m c (t.castLE (by decide))) 3 := by
  refine (pay11_apply _ _ _ _ _ _ t j).trans ?_
  rw [wIn_apply, wIn_apply, peer_peer]
  exact congrArg₂ (· + ·) (congrArg (· * _) (ffn_lo m ρ c (peer c) t j 0)) (congrArg (· * _) (ffn_lo m ρ c (peer c) t j 1))

theorem pHi_apply (c : Dev nD) (t : Fin 128) (j : Fin 512) :
    pHi m ρ (peer c) (ix2 t j)
      = part m c (peer c) ⟨128 + t.val, by omega⟩ j 0 * weight (hgate m c ⟨128 + t.val, by omega⟩) 2
        + part m c (peer c) ⟨128 + t.val, by omega⟩ j 1 * weight (hgate m c ⟨128 + t.val, by omega⟩) 3 := by
  refine (pay15_apply _ _ _ t j).trans ?_
  rw [pay12_apply, pay13_apply, pay14_apply, wIn_apply, wIn_apply, peer_peer]
  exact congrArg₂ (· + ·) (congrArg (· * _) (ffn_hi m ρ c (peer c) t j 0)) (congrArg (· * _) (ffn_hi m ρ c (peer c) t j 1))

theorem oLo_apply (c : Dev nD) (t : Fin 128) (j : Fin 512) : oLo m ρ c (ix2 t j) = total m c (t.castLE (by decide)) j := by
  refine (pay19_apply _ _ _ _ _ _ t j).trans ?_
  exact congrArg₂ (· + ·) (congrArg₂ (· + ·) (own0_apply m ρ c _ j)
    (congrArg₂ (· * ·) (ffn_part m ρ c c _ j 1) (w16_apply m ρ c _))) (pLo_apply m ρ c t j)

theorem oHi_apply (c : Dev nD) (t : Fin 128) (j : Fin 512) : oHi m ρ c (ix2 t j) = total m c ⟨128 + t.val, by omega⟩ j :=
  (pay20_apply _ _ t j).trans (congrArg₂ (· + ·) (acc_apply m ρ c _ j) (pHi_apply m ρ c t j))

theorem read_oM (f : S256x512.Idx → EReal) : oM.view.read (Elt Ideal) f = f := rfl

/-- Every element of a device's block of the result. -/
theorem outAt_apply (c : Dev nD) (t : Fin 256) (j : Fin 512) : outAt m ρ c (ix2 t j) = total m c t j := by
  refine (congrFun (read_oM (outAt m ρ c)) (ix2 t j)).symm.trans ?_
  unfold outAt
  by_cases h : t.val < 128
  · refine (View.read_writes_cons_unit_of_not_mem oM.view (xin m ρ c) inb_S256x512_S128x512_128_0 _ _ (ix2 t j) rfl
      (0 : Fin 2) (Or.inl h)).trans ?_
    refine (View.read_writes_cons_unit_of_mem oM.view (xin m ρ c) inb_S256x512_S128x512_0_0 _ _ (ix2 t j)
      (ix2 (⟨t.val, h⟩ : Fin 128) j) rfl fun a => match a with
        | ⟨0, _⟩ => (Nat.zero_add _).symm
        | ⟨1, _⟩ => (Nat.zero_add _).symm).trans ?_
    exact oLo_apply m ρ c ⟨t.val, h⟩ j
  · refine (View.read_writes_cons_unit_of_mem oM.view (xin m ρ c) inb_S256x512_S128x512_128_0 _ _ (ix2 t j)
      (ix2 (⟨t.val - 128, by omega⟩ : Fin 128) j) rfl fun a => match a with
        | ⟨0, _⟩ => by show t.val = 128 + (t.val - 128); omega
        | ⟨1, _⟩ => (Nat.zero_add _).symm).trans ?_
    refine (oHi_apply m ρ c ⟨t.val - 128, by omega⟩ j).trans (congrArg (total m c · j) (Fin.ext ?_))
    show 128 + (t.val - 128) = t.val
    omega

theorem whole_out : (cfg0.win (4 : Fin 5)).WholeAt t0_0 := by decide +kernel

theorem emb_out (G : S256x512.Idx → EReal) (j : (cfg0.win (4 : Fin 5)).shape.Idx) :
    (G fun a => ⟨j a, whole_out.lt_size j a⟩) = G ((cfg0.win (4 : Fin 5)).arr.view.emb j) := rfl

theorem aft_out (c : Dev nD) : aft m ρ c (⟨4, by decide⟩ : Fin 5) = outAt m ρ c := by
  unfold aft
  rfl

theorem after_eq (c : Dev nD) (w : Fin cfg0.W) : (dats m ρ 0 c).after w t0_0 = aft m ρ c w := rfl

theorem finalA_out_of (c : Dev nD) (G : S256x512.Idx → EReal) (hG : (dats m ρ 0 c).after (4 : Fin 5) t0_0 = G) :
    finalA m ρ c (4 : Fin 5) = G := by
  refine Dat.arrAt_eq_of_after_last (dats m ρ 0 c) (4 : Fin 5) t0_0 whole_out G (fun j => ?_) (Memref.isWhole_whole _)
  refine Eq.trans (eq_of_heq (cast_heq _ _)) ?_
  exact (congrFun hG _).trans (emb_out G j)

/-- The result array ends as the block the body left. -/
theorem finalA_out (c : Dev nD) : finalA m ρ c (4 : Fin 5) = outAt m ρ c :=
  finalA_out_of m ρ c _ ((after_eq m ρ c 4).trans (aft_out m ρ c))

/-- At the end of the run a device's result, one element. -/
theorem result_apply {r : PUnit × MemSt nD τ sig (Elt Ideal)} (h : QC m ρ r) (c : Dev nD) (t : Fin 256) (j : Fin 512) :
    r.2.mem ((c.tc : Thread nD τ).loc main_v1) (ix2 t j) = total m c t j :=
  (congrFun ((h c (4 : Fin 5)).trans (finalA_out m ρ c)) (ix2 t j)).trans (outAt_apply m ρ c t j)

end Cert.Moe

end
-- ==== Proof.RefValue.lean ====
/-
# The reference, one element

The reference's result at a token the mask keeps: its two largest gates' softmax times those two experts' results.
-/
module

public import proofs.«01_k».proof.Proof.Spec
public import proofs.«01_k».proof.Proof.Gen.ReferenceIdeal.Read

@[expose] public section

noncomputable section

namespace Cert.Moe.Ref

open Cert.ReferenceIdeal Cert.ReferenceIdeal.Gen Cert.ReferenceIdeal.Read
open Idealize.ShloMosaic Idealize.ShloMosaic.ValueIdx

variable (x0 : (⟨S512x512, .f32⟩ : BufTy).Contents (Elt Ideal)) (x1 : (⟨S512x4, .f32⟩ : BufTy).Contents (Elt Ideal))
  (x2 : (⟨S4x512x1024, .f32⟩ : BufTy).Contents (Elt Ideal)) (x3 : (⟨S4x1024x512, .f32⟩ : BufTy).Contents (Elt Ideal))
variable (t j : Fin 512)

theorem gates (e : Fin 4) : val_main_v0 (F := Ideal) x0 x1 (ix2 t e) = gate x0 x1 t e := by
  unfold gate gateOf
  rw [val_main_v0_apply]
  refine Finset.sum_congr rfl fun k _ => ?_
  refine congrArg₂ (· * ·) (congrArg x0 ?_) (congrArg x1 ?_) <;>
    exact funext fun a => match a with | ⟨0, _⟩ => rfl | ⟨1, _⟩ => rfl

theorem gates_fun : (fun e => val_main_v0 (F := Ideal) x0 x1 (ix2 t e)) = gate x0 x1 t := funext fun e => gates x0 x1 t e

/-- The experts at the places of a token's sorted gates. -/
abbrev ord : Fin 4 → Fin 4 := order (gate x0 x1 t)

theorem values (k : Fin 2) : val_main_values (F := Ideal) x0 x1 (ix2 t k) = gate x0 x1 t (ord x0 x1 t (k.castLE (by decide))) := by
  refine (topK_fst (by decide) (val_main_v0 (F := Ideal) x0 x1) sliceFits_S512x4_S512x2 t k).trans ?_
  rw [gates_fun]
  exact gates x0 x1 t _

theorem indices (k : Fin 2) : val_main_indices (F := Ideal) x0 x1 (ix2 t k) = BitVec.ofNat 32 (ord x0 x1 t (k.castLE (by decide))).val := by
  refine (topK_snd (by decide) (val_main_v0 (F := Ideal) x0 x1) sliceFits_S512x4_S512x2 t k).trans ?_
  rw [gates_fun]

/-- The larger of the two kept gates. -/
theorem largest : val_main_v1 (F := Ideal) x0 x1 (ix1 t)
    = max (gate x0 x1 t (ord x0 x1 t 0)) (gate x0 x1 t (ord x0 x1 t 1)) := by
  unfold val_main_v1
  have hc : Std.Commutative (FloatOps.maximumf (F := Ideal) (φ := .f32)) := ⟨fun a b => max_comm (α := EReal) a b⟩
  have ha : Std.Associative (FloatOps.maximumf (F := Ideal) (φ := .f32)) := ⟨fun a b c => max_assoc (α := EReal) a b c⟩
  rw [Host.reduce_eq_fold_single (FloatOps.maximumf (F := Ideal) (φ := .f32)) _ _ reducesTo_S512x2_S512_d1 (by decide) h_S_]
  have e : ∀ k : Fin 2, (val_main_values (F := Ideal) x0 x1 ∘ Shape.Reduces.lift (s := S512x2) (a := 1) (t := S512) (by decide) (ix1 t)) k
      = gate x0 x1 t (ord x0 x1 t (k.castLE (by decide))) := fun k => by
    refine Eq.trans (congrArg (val_main_values (F := Ideal) x0 x1) ?_) (values x0 x1 t k)
    exact funext fun a => match a with | ⟨0, _⟩ => rfl | ⟨1, _⟩ => rfl
  refine (congrArg (fun f => (Finset.univ : Finset (Fin 2)).fold max (Ideal.ofBits .f32 0xFF800000#32) f) (funext e)).trans ?_
  rw [ofBits_negInf]
  show (({0, 1} : Finset (Fin 2))).fold max ⊥ _ = _
  rw [Finset.fold_insert (by decide), Finset.fold_singleton, max_bot_right]
  rfl

/-- The weight of the `k`-th kept expert. -/
theorem weights (h : Routed (gate x0 x1 t) (ord x0 x1 t 0) (ord x0 x1 t 1)) (k : Fin 2) :
    val_main_v9 (F := Ideal) x0 x1 (ix2 t k)
      = soft (gate x0 x1 t (ord x0 x1 t 0)) (gate x0 x1 t (ord x0 x1 t 1)) (gate x0 x1 t (ord x0 x1 t (k.castLE (by decide)))) := by
  have e5 : ∀ l : Fin 2, val_main_v5 (F := Ideal) x0 x1 (ix2 t l)
      = Ideal.exp (gate x0 x1 t (ord x0 x1 t (l.castLE (by decide))) - gate x0 x1 t (ord x0 x1 t 0)) := fun l => by
    rw [val_main_v5_apply, val_main_v4_apply, val_main_v3_apply, val_main_v2_apply, values]
    rw [show idx_main_v2 (idx_main_v3 (ix2 t l)) = ix1 t from funext fun a => match a with | ⟨0, _⟩ => rfl, largest,
      max_eq_left h.lt.le]
    rfl
  rw [val_main_v9_apply, val_main_v8_apply, val_main_v7_apply, val_main_v6_apply]
  have e6 : ∀ l : Fin 2, idx_main_v6 (idx_main_v7 (idx_main_v8 (ix2 t k))) l = ix2 t l := fun l =>
    funext fun a => match a with | ⟨0, _⟩ => rfl | ⟨1, _⟩ => rfl
  simp only [e6, e5]
  rw [Fin.sum_univ_two, val_main_cst_0_apply]
  rw [show (FloatOps.ofBits (F := Ideal) .f32 0x00000000#32 : EReal) = 0 from Ideal.ofBits_zero_f32, zero_add]
  rfl

theorem expert_0 : val_main_v23 (F := Ideal) x0 x2 x3 (ix2 t j) = expert x0 x2 x3 t j 0 := by
  unfold expert mlp
  rw [val_main_v23_apply]
  refine Finset.sum_congr rfl fun f _ => ?_
  rw [val_main_v20_apply, val_main_v19_apply, val_main_cst_2_apply, val_main_v18_apply, val_main_v22_apply, val_main_v21_apply]
  rw [show (FloatOps.ofBits (F := Ideal) .f32 0x00000000#32 : EReal) = 0 from Ideal.ofBits_zero_f32]
  refine congrArg₂ (· * ·) (congrArg (max · (0 : EReal)) (Finset.sum_congr rfl fun k _ => ?_)) (congrArg x3 ?_)
  · rw [val_main_v17_apply, val_main_v16_apply]
    refine congrArg₂ (· * ·) (congrArg x0 ?_) (congrArg x2 ?_)
    · exact funext fun a => match a with | ⟨0, _⟩ => rfl | ⟨1, _⟩ => rfl
    · refine funext fun a => Fin.ext ?_
      have hk := k.isLt
      have hf := f.isLt
      match a with
      | ⟨0, _⟩ => rfl
      | ⟨1, _⟩ => show (k.val * 1024 + f.val) / 1024 % 512 = k.val; omega
      | ⟨2, _⟩ => show (k.val * 1024 + f.val) % 1024 = f.val; omega
  · refine funext fun a => Fin.ext ?_
    have hj := j.isLt
    have hf := f.isLt
    match a with
    | ⟨0, _⟩ => rfl
    | ⟨1, _⟩ => show (f.val * 512 + j.val) / 512 % 1024 = f.val; omega
    | ⟨2, _⟩ => show (f.val * 512 + j.val) % 512 = j.val; omega

theorem expert_1 : val_main_v41 (F := Ideal) x0 x2 x3 (ix2 t j) = expert x0 x2 x3 t j 1 := by
  unfold expert mlp
  rw [val_main_v41_apply]
  refine Finset.sum_congr rfl fun f _ => ?_
  rw [val_main_v38_apply, val_main_v37_apply, val_main_cst_5_apply, val_main_v36_apply, val_main_v40_apply, val_main_v39_apply]
  rw [show (FloatOps.ofBits (F := Ideal) .f32 0x00000000#32 : EReal) = 0 from Ideal.ofBits_zero_f32]
  refine congrArg₂ (· * ·) (congrArg (max · (0 : EReal)) (Finset.sum_congr rfl fun k _ => ?_)) (congrArg x3 ?_)
  · rw [val_main_v35_apply, val_main_v34_apply]
    refine congrArg₂ (· * ·) (congrArg x0 ?_) (congrArg x2 ?_)
    · exact funext fun a => match a with | ⟨0, _⟩ => rfl | ⟨1, _⟩ => rfl
    · refine funext fun a => Fin.ext ?_
      have hk := k.isLt
      have hf := f.isLt
      match a with
      | ⟨0, _⟩ => rfl
      | ⟨1, _⟩ => show (k.val * 1024 + f.val) / 1024 % 512 = k.val; omega
      | ⟨2, _⟩ => show (k.val * 1024 + f.val) % 1024 = f.val; omega
  · refine funext fun a => Fin.ext ?_
    have hj := j.isLt
    have hf := f.isLt
    match a with
    | ⟨0, _⟩ => rfl
    | ⟨1, _⟩ => show (f.val * 512 + j.val) / 512 % 1024 = f.val; omega
    | ⟨2, _⟩ => show (f.val * 512 + j.val) % 512 = j.val; omega

theorem expert_2 : val_main_v59 (F := Ideal) x0 x2 x3 (ix2 t j) = expert x0 x2 x3 t j 2 := by
  unfold expert mlp
  rw [val_main_v59_apply]
  refine Finset.sum_congr rfl fun f _ => ?_
  rw [val_main_v56_apply, val_main_v55_apply, val_main_cst_8_apply, val_main_v54_apply, val_main_v58_apply, val_main_v57_apply]
  rw [show (FloatOps.ofBits (F := Ideal) .f32 0x00000000#32 : EReal) = 0 from Ideal.ofBits_zero_f32]
  refine congrArg₂ (· * ·) (congrArg (max · (0 : EReal)) (Finset.sum_congr rfl fun k _ => ?_)) (congrArg x3 ?_)
  · rw [val_main_v53_apply, val_main_v52_apply]
    refine congrArg₂ (· * ·) (congrArg x0 ?_) (congrArg x2 ?_)
    · exact funext fun a => match a with | ⟨0, _⟩ => rfl | ⟨1, _⟩ => rfl
    · refine funext fun a => Fin.ext ?_
      have hk := k.isLt
      have hf := f.isLt
      match a with
      | ⟨0, _⟩ => rfl
      | ⟨1, _⟩ => show (k.val * 1024 + f.val) / 1024 % 512 = k.val; omega
      | ⟨2, _⟩ => show (k.val * 1024 + f.val) % 1024 = f.val; omega
  · refine funext fun a => Fin.ext ?_
    have hj := j.isLt
    have hf := f.isLt
    match a with
    | ⟨0, _⟩ => rfl
    | ⟨1, _⟩ => show (f.val * 512 + j.val) / 512 % 1024 = f.val; omega
    | ⟨2, _⟩ => show (f.val * 512 + j.val) % 512 = j.val; omega

theorem expert_3 : val_main_v77 (F := Ideal) x0 x2 x3 (ix2 t j) = expert x0 x2 x3 t j 3 := by
  unfold expert mlp
  rw [val_main_v77_apply]
  refine Finset.sum_congr rfl fun f _ => ?_
  rw [val_main_v74_apply, val_main_v73_apply, val_main_cst_11_apply, val_main_v72_apply, val_main_v76_apply, val_main_v75_apply]
  rw [show (FloatOps.ofBits (F := Ideal) .f32 0x00000000#32 : EReal) = 0 from Ideal.ofBits_zero_f32]
  refine congrArg₂ (· * ·) (congrArg (max · (0 : EReal)) (Finset.sum_congr rfl fun k _ => ?_)) (congrArg x3 ?_)
  · rw [val_main_v71_apply, val_main_v70_apply]
    refine congrArg₂ (· * ·) (congrArg x0 ?_) (congrArg x2 ?_)
    · exact funext fun a => match a with | ⟨0, _⟩ => rfl | ⟨1, _⟩ => rfl
    · refine funext fun a => Fin.ext ?_
      have hk := k.isLt
      have hf := f.isLt
      match a with
      | ⟨0, _⟩ => rfl
      | ⟨1, _⟩ => show (k.val * 1024 + f.val) / 1024 % 512 = k.val; omega
      | ⟨2, _⟩ => show (k.val * 1024 + f.val) % 1024 = f.val; omega
  · refine funext fun a => Fin.ext ?_
    have hj := j.isLt
    have hf := f.isLt
    match a with
    | ⟨0, _⟩ => rfl
    | ⟨1, _⟩ => show (f.val * 512 + j.val) / 512 % 1024 = f.val; omega
    | ⟨2, _⟩ => show (f.val * 512 + j.val) % 512 = j.val; omega

/-- The result of an expert when the token is sent to it, zero otherwise. -/
def term (k : Fin 2) (e : Fin 4) : EReal :=
  Scalar.select (IntOp.cmpi .eq (val_main_indices (F := Ideal) x0 x1 (ix2 t k)) (BitVec.ofNat 32 e.val))
    (expert x0 x2 x3 t j e * val_main_v9 (F := Ideal) x0 x1 (ix2 t k)) 0

theorem term_0 : val_main_v27 (F := Ideal) x0 x1 x2 x3 (ix2 t j) = term x0 x1 x2 x3 t j 0 0 := by
  rw [val_main_v27_apply, val_main_v26_apply, val_main_call0_v1_apply, val_main_v15_apply, val_main_v14_apply, val_main_v12_apply, val_main_v11_apply,
    val_main_v13_apply, val_main_c_apply, val_main_call0_v2_apply, val_main_call0_v0_apply, val_main_cst_3_apply,
    val_main_v25_apply, val_main_v24_apply]
  rw [show (FloatOps.ofBits (F := Ideal) .f32 0x00000000#32 : EReal) = 0 from Ideal.ofBits_zero_f32,
    show val_main_v23 (F := Ideal) x0 x2 x3 (ix2 t j) = _ from expert_0 x0 x2 x3 t j,
    show idx_main_v11 (idx_main_v12 (idx_main_v15 (idx_main_call0_v1 (ix2 t j)))) = ix2 t 0 from
      funext fun a => Fin.ext (match a with | ⟨0, _⟩ => Nat.div_one _ | ⟨1, _⟩ => rfl),
    show idx_main_v24 (idx_main_v25 (ix2 t j)) = ix2 t 0 from
      funext fun a => Fin.ext (match a with | ⟨0, _⟩ => rfl | ⟨1, _⟩ => rfl)]
  rfl

theorem term_1 : val_main_v45 (F := Ideal) x0 x1 x2 x3 (ix2 t j) = term x0 x1 x2 x3 t j 0 1 := by
  rw [val_main_v45_apply, val_main_v44_apply, val_main_call1_v1_apply, val_main_v33_apply, val_main_v32_apply, val_main_v30_apply, val_main_v29_apply,
    val_main_v31_apply, val_main_c_4_apply, val_main_call1_v2_apply, val_main_call1_v0_apply, val_main_cst_6_apply,
    val_main_v43_apply, val_main_v42_apply]
  rw [show (FloatOps.ofBits (F := Ideal) .f32 0x00000000#32 : EReal) = 0 from Ideal.ofBits_zero_f32,
    show val_main_v41 (F := Ideal) x0 x2 x3 (ix2 t j) = _ from expert_1 x0 x2 x3 t j,
    show idx_main_v29 (idx_main_v30 (idx_main_v33 (idx_main_call1_v1 (ix2 t j)))) = ix2 t 0 from
      funext fun a => Fin.ext (match a with | ⟨0, _⟩ => Nat.div_one _ | ⟨1, _⟩ => rfl),
    show idx_main_v42 (idx_main_v43 (ix2 t j)) = ix2 t 0 from
      funext fun a => Fin.ext (match a with | ⟨0, _⟩ => rfl | ⟨1, _⟩ => rfl)]
  rfl

theorem term_2 : val_main_v63 (F := Ideal) x0 x1 x2 x3 (ix2 t j) = term x0 x1 x2 x3 t j 0 2 := by
  rw [val_main_v63_apply, val_main_v62_apply, val_main_call2_v1_apply, val_main_v51_apply, val_main_v50_apply, val_main_v48_apply, val_main_v47_apply,
    val_main_v49_apply, val_main_c_7_apply, val_main_call2_v2_apply, val_main_call2_v0_apply, val_main_cst_9_apply,
    val_main_v61_apply, val_main_v60_apply]
  rw [show (FloatOps.ofBits (F := Ideal) .f32 0x00000000#32 : EReal) = 0 from Ideal.ofBits_zero_f32,
    show val_main_v59 (F := Ideal) x0 x2 x3 (ix2 t j) = _ from expert_2 x0 x2 x3 t j,
    show idx_main_v47 (idx_main_v48 (idx_main_v51 (idx_main_call2_v1 (ix2 t j)))) = ix2 t 0 from
      funext fun a => Fin.ext (match a with | ⟨0, _⟩ => Nat.div_one _ | ⟨1, _⟩ => rfl),
    show idx_main_v60 (idx_main_v61 (ix2 t j)) = ix2 t 0 from
      funext fun a => Fin.ext (match a with | ⟨0, _⟩ => rfl | ⟨1, _⟩ => rfl)]
  rfl

theorem term_3 : val_main_v81 (F := Ideal) x0 x1 x2 x3 (ix2 t j) = term x0 x1 x2 x3 t j 0 3 := by
  rw [val_main_v81_apply, val_main_v80_apply, val_main_call3_v1_apply, val_main_v69_apply, val_main_v68_apply, val_main_v66_apply, val_main_v65_apply,
    val_main_v67_apply, val_main_c_10_apply, val_main_call3_v2_apply, val_main_call3_v0_apply, val_main_cst_12_apply,
    val_main_v79_apply, val_main_v78_apply]
  rw [show (FloatOps.ofBits (F := Ideal) .f32 0x00000000#32 : EReal) = 0 from Ideal.ofBits_zero_f32,
    show val_main_v77 (F := Ideal) x0 x2 x3 (ix2 t j) = _ from expert_3 x0 x2 x3 t j,
    show idx_main_v65 (idx_main_v66 (idx_main_v69 (idx_main_call3_v1 (ix2 t j)))) = ix2 t 0 from
      funext fun a => Fin.ext (match a with | ⟨0, _⟩ => Nat.div_one _ | ⟨1, _⟩ => rfl),
    show idx_main_v78 (idx_main_v79 (ix2 t j)) = ix2 t 0 from
      funext fun a => Fin.ext (match a with | ⟨0, _⟩ => rfl | ⟨1, _⟩ => rfl)]
  rfl

theorem term_4 : val_main_v99 (F := Ideal) x0 x1 x2 x3 (ix2 t j) = term x0 x1 x2 x3 t j 1 0 := by
  rw [val_main_v99_apply, val_main_v98_apply, val_main_call4_v1_apply, val_main_v87_apply, val_main_v86_apply, val_main_v84_apply, val_main_v83_apply,
    val_main_v85_apply, val_main_c_13_apply, val_main_call4_v2_apply, val_main_call4_v0_apply, val_main_cst_15_apply,
    val_main_v97_apply, val_main_v96_apply]
  rw [show (FloatOps.ofBits (F := Ideal) .f32 0x00000000#32 : EReal) = 0 from Ideal.ofBits_zero_f32,
    show val_main_v95 (F := Ideal) x0 x2 x3 (ix2 t j) = _ from expert_0 x0 x2 x3 t j,
    show idx_main_v83 (idx_main_v84 (idx_main_v87 (idx_main_call4_v1 (ix2 t j)))) = ix2 t 1 from
      funext fun a => Fin.ext (match a with | ⟨0, _⟩ => Nat.div_one _ | ⟨1, _⟩ => rfl),
    show idx_main_v96 (idx_main_v97 (ix2 t j)) = ix2 t 1 from
      funext fun a => Fin.ext (match a with | ⟨0, _⟩ => rfl | ⟨1, _⟩ => rfl)]
  rfl

theorem term_5 : val_main_v117 (F := Ideal) x0 x1 x2 x3 (ix2 t j) = term x0 x1 x2 x3 t j 1 1 := by
  rw [val_main_v117_apply, val_main_v116_apply, val_main_call5_v1_apply, val_main_v105_apply, val_main_v104_apply, val_main_v102_apply, val_main_v101_apply,
    val_main_v103_apply, val_main_c_16_apply, val_main_call5_v2_apply, val_main_call5_v0_apply, val_main_cst_18_apply,
    val_main_v115_apply, val_main_v114_apply]
  rw [show (FloatOps.ofBits (F := Ideal) .f32 0x00000000#32 : EReal) = 0 from Ideal.ofBits_zero_f32,
    show val_main_v113 (F := Ideal) x0 x2 x3 (ix2 t j) = _ from expert_1 x0 x2 x3 t j,
    show idx_main_v101 (idx_main_v102 (idx_main_v105 (idx_main_call5_v1 (ix2 t j)))) = ix2 t 1 from
      funext fun a => Fin.ext (match a with | ⟨0, _⟩ => Nat.div_one _ | ⟨1, _⟩ => rfl),
    show idx_main_v114 (idx_main_v115 (ix2 t j)) = ix2 t 1 from
      funext fun a => Fin.ext (match a with | ⟨0, _⟩ => rfl | ⟨1, _⟩ => rfl)]
  rfl

theorem term_6 : val_main_v135 (F := Ideal) x0 x1 x2 x3 (ix2 t j) = term x0 x1 x2 x3 t j 1 2 := by
  rw [val_main_v135_apply, val_main_v134_apply, val_main_call6_v1_apply, val_main_v123_apply, val_main_v122_apply, val_main_v120_apply, val_main_v119_apply,
    val_main_v121_apply, val_main_c_19_apply, val_main_call6_v2_apply, val_main_call6_v0_apply, val_main_cst_21_apply,
    val_main_v133_apply, val_main_v132_apply]
  rw [show (FloatOps.ofBits (F := Ideal) .f32 0x00000000#32 : EReal) = 0 from Ideal.ofBits_zero_f32,
    show val_main_v131 (F := Ideal) x0 x2 x3 (ix2 t j) = _ from expert_2 x0 x2 x3 t j,
    show idx_main_v119 (idx_main_v120 (idx_main_v123 (idx_main_call6_v1 (ix2 t j)))) = ix2 t 1 from
      funext fun a => Fin.ext (match a with | ⟨0, _⟩ => Nat.div_one _ | ⟨1, _⟩ => rfl),
    show idx_main_v132 (idx_main_v133 (ix2 t j)) = ix2 t 1 from
      funext fun a => Fin.ext (match a with | ⟨0, _⟩ => rfl | ⟨1, _⟩ => rfl)]
  rfl

theorem term_7 : val_main_v153 (F := Ideal) x0 x1 x2 x3 (ix2 t j) = term x0 x1 x2 x3 t j 1 3 := by
  rw [val_main_v153_apply, val_main_v152_apply, val_main_call7_v1_apply, val_main_v141_apply, val_main_v140_apply, val_main_v138_apply, val_main_v137_apply,
    val_main_v139_apply, val_main_c_22_apply, val_main_call7_v2_apply, val_main_call7_v0_apply, val_main_cst_24_apply,
    val_main_v151_apply, val_main_v150_apply]
  rw [show (FloatOps.ofBits (F := Ideal) .f32 0x00000000#32 : EReal) = 0 from Ideal.ofBits_zero_f32,
    show val_main_v149 (F := Ideal) x0 x2 x3 (ix2 t j) = _ from expert_3 x0 x2 x3 t j,
    show idx_main_v137 (idx_main_v138 (idx_main_v141 (idx_main_call7_v1 (ix2 t j)))) = ix2 t 1 from
      funext fun a => Fin.ext (match a with | ⟨0, _⟩ => Nat.div_one _ | ⟨1, _⟩ => rfl),
    show idx_main_v150 (idx_main_v151 (ix2 t j)) = ix2 t 1 from
      funext fun a => Fin.ext (match a with | ⟨0, _⟩ => rfl | ⟨1, _⟩ => rfl)]
  rfl

/-- The four experts' terms of one kept gate add up to the chosen expert's. -/
theorem pick (k : Fin 2) : term x0 x1 x2 x3 t j k 0 + term x0 x1 x2 x3 t j k 1 + term x0 x1 x2 x3 t j k 2 + term x0 x1 x2 x3 t j k 3
    = expert x0 x2 x3 t j (ord x0 x1 t (k.castLE (by decide))) * val_main_v9 (F := Ideal) x0 x1 (ix2 t k) := by
  unfold term
  rw [indices]
  generalize ord x0 x1 t (k.castLE (by decide)) = o
  generalize val_main_v9 (F := Ideal) x0 x1 (ix2 t k) = w
  have key : ∀ o e : Fin 4, IntOp.cmpi .eq (BitVec.ofNat 32 o.val) (BitVec.ofNat 32 e.val) = if o = e then 1#1 else 0#1 := by decide
  simp only [key]
  match o with
  | 0 => simp [select_one, select_zero]
  | 1 => simp [select_one, select_zero]
  | 2 => simp [select_one, select_zero]
  | 3 => simp [select_one, select_zero]

/-- The reference's result at a token whose two largest gates stand out. -/
theorem value (h : Routed (gate x0 x1 t) (ord x0 x1 t 0) (ord x0 x1 t 1)) :
    val_main_v154 (F := Ideal) x0 x1 x2 x3 (ix2 t j) = ∑ e, expert x0 x2 x3 t j e * weight (gate x0 x1 t) e := by
  rw [h.sum]
  have a0 : val_main_v10 (F := Ideal) (ix2 t j) = (0 : EReal) := by
    rw [val_main_v10_apply, val_main_cst_1_apply]
    exact Ideal.ofBits_zero_f32
  rw [val_main_v154_apply, val_main_v136_apply, val_main_v118_apply, val_main_v100_apply, val_main_v82_apply, val_main_v64_apply,
    val_main_v46_apply, val_main_v28_apply, a0, term_0, term_1, term_2, term_3, term_4, term_5, term_6, term_7]
  have p0 := pick x0 x1 x2 x3 t j 0
  have p1 := pick x0 x1 x2 x3 t j 1
  rw [weights x0 x1 t h] at p0 p1
  refine Eq.trans ?_ (congrArg₂ (· + ·) p0 p1)
  show (0 : EReal) + _ + _ + _ + _ + _ + _ + _ + _ = _
  rw [zero_add]
  simp only [add_assoc]

end Cert.Moe.Ref

end
-- ==== Proof.Mask.lean ====
/-
# What the mask says of a token

Where the mask is set, the token's largest gate is finite and its three largest gates fall strictly.
-/
module

public import proofs.«01_k».proof.Proof.RefValue
public import proofs.«01_k».proof.Proof.Gen.On_no_tie

@[expose] public section

noncomputable section

namespace Cert.Moe.Mask

open Cert.On_no_tie Cert.On_no_tie.Gen
open Idealize.ShloMosaic Idealize.ShloMosaic.ValueIdx

/-- A column of a three-column array, as a vector, at a token. -/
theorem column (off : Fin 2 → Nat) (c : Fin 3) (x : S512x3.Idx → EReal) (hs : S512x3.Slices off S512x1) (h0 : off 0 = 0)
    (h1 : off 1 = c.val) (hc : S512x1.ShapeCasts S512) (t : Fin 512) :
    shapeCast S512 (extractStridedSlice S512x1 off x hs) hc (ix1 t) = x (ix2 t c) := by
  rw [shapeCast_apply _ hc (ix1 t) (ix2 t 0) (by
      rw [Shape.rowMajor_val_two, Shape.rowMajor_val_one]
      show t.val * 1 + 0 = t.val
      omega),
    extractStridedSlice_apply off x hs (ix2 t 0) (ix2 t c) (fun a => match a with
      | ⟨0, _⟩ => by show t.val = off 0 + t.val; omega
      | ⟨1, _⟩ => by show c.val = off 1 + 0; omega)]

theorem and_one {a b : BitVec 1} (h : a &&& b = 1#1) : a = 1#1 ∧ b = 1#1 := by
  revert a b
  decide

theorem lt_of_cmp {a b : EReal} (h : FloatOps.cmpf (F := Ideal) (φ := .f32) .olt a b = 1#1) : a < b := by
  by_contra hn
  rw [show FloatOps.cmpf (F := Ideal) (φ := .f32) .olt a b = BitVec.ofBool (decide (a < b)) from rfl, decide_eq_false hn] at h
  exact absurd h (by decide)

variable (X : S512x512.Idx → EReal) (R : S512x4.Idx → EReal) (U : S4x512x1024.Idx → EReal) (V : S4x1024x512.Idx → EReal)

/-- Where the mask is set the kernel's two experts are the first two places of the sorted gates. -/
theorem routed (t j : Fin 512) (h : Cert.On_no_tie.fn (F := Ideal) X R U V (ix2 t j) = 1#1) :
    Routed (gate X R t) (Ref.ord X R t 0) (Ref.ord X R t 1) := by
  have hv : ∀ k : Fin 3, (Host.topK S512x3 1 (FloatOps.cmpfTotal (F := Ideal) (φ := .f32) .gt)
      (Host.dotGeneral (F := Ideal) (φ₁ := .f32) (φ₂ := .f32) dot_S512x512_S512x4_S512x4_1_0_0_1_n_n none X R) sliceFits_S512x4_S512x3).1 (ix2 t k)
        = gate X R t (Ref.ord X R t (k.castLE (by decide))) := fun k => by
    refine (topK_fst (by decide) (Cert.ReferenceIdeal.Read.val_main_v0 (F := Ideal) X R) sliceFits_S512x4_S512x3 t k).trans ?_
    rw [Ref.gates_fun]
    exact Ref.gates X R t _
  unfold Cert.On_no_tie.fn at h
  simp only at h
  rw [broadcastInDim_apply _ bcast_S512x1_S512x512_0_1 _ (ix2 t j) (ix2 t 0) (fun a => match a with
      | ⟨0, _⟩ => rfl
      | ⟨1, _⟩ => rfl),
    broadcastInDim_apply _ bcast_S512_S512x1_0 _ (ix2 t 0) (ix1 t) (fun a => match a with | ⟨0, _⟩ => rfl)] at h
  obtain ⟨h12, h3⟩ := and_one h
  obtain ⟨h1, h2⟩ := and_one h12
  have c0 := fun x => column ![0, 0] 0 x slices_S512x3_S512x1_0_0 rfl rfl shapeCasts_S512x1_S512 t
  have c1 := fun x => column ![0, 1] 1 x slices_S512x3_S512x1_0_1 rfl rfl shapeCasts_S512x1_S512 t
  have c2 := fun x => column ![0, 2] 2 x slices_S512x3_S512x1_0_2 rfl rfl shapeCasts_S512x1_S512 t
  replace h1 := lt_of_cmp h1
  replace h2 := lt_of_cmp h2
  replace h3 := lt_of_cmp h3
  rw [c0, hv] at h1
  rw [c1, c0, hv, hv] at h2
  rw [c2, c1, hv, hv] at h3
  refine routed_order _ ?_ h2 h3
  refine lt_of_lt_of_eq h1 ?_
  rw [broadcastInDim_apply _ bcast_S_S512 _ (ix1 t) (fun a => a.elim0) (fun a => a.elim0)]
  exact ofBits_posInf

end Cert.Moe.Mask

end
-- ==== Proof.Algebraic.lean ====
/-
# The two programs agree

Every device's block of the kernel's result is that block of the reference's result, at every token the mask keeps.
-/
module

public import proofs.«01_k».proof.Proof.KernelValue
public import proofs.«01_k».proof.Proof.Mask
public import Idealize.ShloMosaic.Lib.Layout
public import Idealize.ShloMosaic.Lib.Claim

@[expose] public section

noncomputable section

namespace Cert.Moe

open Cert.KernelIdeal Cert.KernelIdeal.Gen
open Idealize.ShloMosaic Idealize.ShloMosaic.ValueIdx
open Idealize.ShloMosaic.TcCoe
open Idealize.SL.Sem

/-! ## Where a device's blocks lie -/

theorem along_x : ∀ c : Dev nD, Layout.meshLin [2, 2, 4] c.val [0] = c.val / 8 := by decide

theorem dev_lt (c : Dev nD) : c.val / 8 < 2 := by have := c.isLt; change c.val < 16 at this; omega

/-- The whole array's row of device `c`'s token `t`. -/
def tok (c : Dev nD) (t : Fin 256) : Fin 512 := ⟨c.val / 8 * 256 + t.val, by have := dev_lt c; omega⟩
/-- The whole array's number of device `c`'s expert `e`. -/
def exOf (c : Dev nD) (e : Fin 2) : Fin 4 := ⟨c.val / 8 * 2 + e.val, by have := dev_lt c; omega⟩
/-- The experts in the order device `c` meets them: its own two, then its peer's. -/
def rot (c : Dev nD) : Equiv.Perm (Fin 4) := Equiv.addRight (if c.val / 8 = 0 then 0 else 2)

theorem rot_0 : ∀ c : Dev nD, exOf c 0 = rot c 0 := by decide
theorem rot_1 : ∀ c : Dev nD, exOf c 1 = rot c 1 := by decide
theorem rot_2 : ∀ c : Dev nD, exOf (peer c) 0 = rot c 2 := by decide
theorem rot_3 : ∀ c : Dev nD, exOf (peer c) 1 = rot c 3 := by decide

/-- A block of tokens within the whole array. -/
theorem token_idx (c : Dev nD) (h : Layout.TilesN (⟨2, ![256, 512]⟩ : Shape) ⟨2, ![512, 512]⟩ fun b => Layout.cutSize [2, 2, 4] ((![[0], []] : Fin 2 → List Nat) b))
    (hm) (t : Fin 256) (k : Fin 512) :
    h.idx (Layout.meshBlock [2, 2, 4] ![[0], []] c hm) (ix2 t k) = ix2 (tok c t) k := by
  refine funext fun a => Fin.ext ?_
  match a with
  | ⟨0, _⟩ => exact congrArg (· * 256 + t.val) (along_x c)
  | ⟨1, _⟩ => exact (congrArg (· + k.val) (Nat.zero_mul _)).trans (Nat.zero_add _)

section Blocks

variable (m : (ℓ : Loc nD τ sig) → Buf (Elt Ideal) ℓ)
  (X : (⟨2, ![512, 512]⟩ : Shape).Idx → EReal) (R : (⟨2, ![512, 4]⟩ : Shape).Idx → EReal)
  (U : (⟨3, ![4, 512, 1024]⟩ : Shape).Idx → EReal) (V : (⟨3, ![4, 1024, 512]⟩ : Shape).Idx → EReal)

/-- Device `c`'s operands are its blocks of the whole arrays. -/
structure Holds (c : Dev nD) : Prop where
  tokens : X0 m c = Layout.blockN ⟨2, ![256, 512]⟩ ⟨2, ![512, 512]⟩ (Layout.meshBlock [2, 2, 4] ![[0], []] c) X
  router : R0 m c = Layout.blockN ⟨2, ![512, 2]⟩ ⟨2, ![512, 4]⟩ (Layout.meshBlock [2, 2, 4] ![[], [0]] c) R
  first : U0 m c = Layout.blockN ⟨3, ![2, 512, 1024]⟩ ⟨3, ![4, 512, 1024]⟩ (Layout.meshBlock [2, 2, 4] ![[0], [], []] c) U
  second : V0 m c = Layout.blockN ⟨3, ![2, 1024, 512]⟩ ⟨3, ![4, 1024, 512]⟩ (Layout.meshBlock [2, 2, 4] ![[0], [], []] c) V

variable {m X R U V}

theorem Holds.x {c : Dev nD} (h : Holds m X R U V c) (t : Fin 256) (k : Fin 512) : X0 m c (ix2 t k) = X (ix2 (tok c t) k) := by
  rw [h.tokens]
  exact congrArg X (token_idx c _ _ t k)

theorem Holds.r {c : Dev nD} (h : Holds m X R U V c) (k : Fin 512) (e : Fin 2) : R0 m c (ix2 k e) = R (ix2 k (exOf c e)) := by
  rw [h.router]
  refine congrArg R (funext fun a => Fin.ext ?_)
  match a with
  | ⟨0, _⟩ => exact (congrArg (· + k.val) (Nat.zero_mul _)).trans (Nat.zero_add _)
  | ⟨1, _⟩ => exact congrArg (· * 2 + e.val) (along_x c)

theorem Holds.u {c : Dev nD} (h : Holds m X R U V c) (e : Fin 2) (k : Fin 512) (f : Fin 1024) :
    U0 m c (ix3 e k f) = U (ix3 (exOf c e) k f) := by
  rw [h.first]
  refine congrArg U (funext fun a => Fin.ext ?_)
  match a with
  | ⟨0, _⟩ => exact congrArg (· * 2 + e.val) (along_x c)
  | ⟨1, _⟩ => exact (congrArg (· + k.val) (Nat.zero_mul _)).trans (Nat.zero_add _)
  | ⟨2, _⟩ => exact (congrArg (· + f.val) (Nat.zero_mul _)).trans (Nat.zero_add _)

theorem Holds.v {c : Dev nD} (h : Holds m X R U V c) (e : Fin 2) (f : Fin 1024) (j : Fin 512) :
    V0 m c (ix3 e f j) = V (ix3 (exOf c e) f j) := by
  rw [h.second]
  refine congrArg V (funext fun a => Fin.ext ?_)
  match a with
  | ⟨0, _⟩ => exact congrArg (· * 2 + e.val) (along_x c)
  | ⟨1, _⟩ => exact (congrArg (· + f.val) (Nat.zero_mul _)).trans (Nat.zero_add _)
  | ⟨2, _⟩ => exact (congrArg (· + j.val) (Nat.zero_mul _)).trans (Nat.zero_add _)

theorem gate_own {c d : Dev nD} (h : Holds m X R U V c) (h' : Holds m X R U V d) (t : Fin 256) (e : Fin 2) :
    gateOf (fun k => X0 m c (ix2 t k)) (fun k => R0 m d (ix2 k e)) = gate X R (tok c t) (exOf d e) := by
  unfold gate
  exact congrArg₂ gateOf (funext fun k => h.x t k) (funext fun k => h'.r k e)

/-- A device's gates are the token's gates in the order the device meets the experts. -/
theorem hgate_eq {c : Dev nD} (h : Holds m X R U V c) (h' : Holds m X R U V (peer c)) (t : Fin 256) :
    hgate m c t = gate X R (tok c t) ∘ rot c := by
  funext l
  match l with
  | 0 => exact (gate_own h h t 0).trans (congrArg (gate X R (tok c t)) (rot_0 c))
  | 1 => exact (gate_own h h t 1).trans (congrArg (gate X R (tok c t)) (rot_1 c))
  | 2 => exact (gate_own h h' t 0).trans (congrArg (gate X R (tok c t)) (rot_2 c))
  | 3 => exact (gate_own h h' t 1).trans (congrArg (gate X R (tok c t)) (rot_3 c))

theorem part_eq {c d : Dev nD} (h : Holds m X R U V c) (h' : Holds m X R U V d) (t : Fin 256) (j : Fin 512) (e : Fin 2) :
    part m c d t j e = expert X U V (tok c t) j (exOf d e) := by
  unfold part expert
  rw [funext fun k => h.x t k, funext fun k => funext fun f => h'.u e k f, funext fun f => h'.v e f j]

/-- A device's four weighted parts are the token's weighted sum over all the experts. -/
theorem total_eq {c : Dev nD} (h : Holds m X R U V c) (h' : Holds m X R U V (peer c)) (t : Fin 256) (j : Fin 512) :
    total m c t j = ∑ e, expert X U V (tok c t) j e * weight (gate X R (tok c t)) e := by
  rw [← Equiv.sum_comp (rot c), Fin.sum_univ_four, add_assoc _ _ (_ * weight _ (rot c 3))]
  unfold total
  rw [part_eq h h, part_eq h h, part_eq h h', part_eq h h', hgate_eq h h', weight_perm, weight_perm, weight_perm, weight_perm,
    rot_0, rot_1, rot_2, rot_3]

end Blocks

/-- The reference's arguments, as they stand before its run. -/
abbrev RefMem := (ℓ : Loc Cert.ReferenceIdeal.nD Cert.ReferenceIdeal.τ Cert.ReferenceIdeal.sig) → Buf (Elt Ideal) ℓ
abbrev refArg0 (m' : RefMem) : (⟨2, ![512, 512]⟩ : Shape).Idx → EReal :=
  m' (((0 : Dev Cert.ReferenceIdeal.nD).tc : Thread Cert.ReferenceIdeal.nD Cert.ReferenceIdeal.τ).loc Cert.ReferenceIdeal.main_arg0)
abbrev refArg1 (m' : RefMem) : (⟨2, ![512, 4]⟩ : Shape).Idx → EReal :=
  m' (((0 : Dev Cert.ReferenceIdeal.nD).tc : Thread Cert.ReferenceIdeal.nD Cert.ReferenceIdeal.τ).loc Cert.ReferenceIdeal.main_arg1)
abbrev refArg2 (m' : RefMem) : (⟨3, ![4, 512, 1024]⟩ : Shape).Idx → EReal :=
  m' (((0 : Dev Cert.ReferenceIdeal.nD).tc : Thread Cert.ReferenceIdeal.nD Cert.ReferenceIdeal.τ).loc Cert.ReferenceIdeal.main_arg2)
abbrev refArg3 (m' : RefMem) : (⟨3, ![4, 1024, 512]⟩ : Shape).Idx → EReal :=
  m' (((0 : Dev Cert.ReferenceIdeal.nD).tc : Thread Cert.ReferenceIdeal.nD Cert.ReferenceIdeal.τ).loc Cert.ReferenceIdeal.main_arg3)

/-- The claim: on equal arguments the kernel's blocks and the reference's result agree wherever the mask is set. -/
theorem algebraic : Cert.algebraic_KernelIdeal_ReferenceIdeal_on_no_tie := by
  intro m g m' g' _ hagree
  have hold : ∀ c, Holds m (refArg0 m') (refArg1 m') (refArg2 m') (refArg3 m') c := fun c => ⟨(hagree c).1, (hagree c).2.1, (hagree c).2.2.1, (hagree c).2.2.2⟩
  refine ⟨Cert.ReferenceIdeal.Read.val_main_v154 (F := Ideal) (refArg0 m') (refArg1 m') (refArg2 m') (refArg3 m'),
    (θ_run defs _ _).mono (fun r h c => ⟨fun i hi => ?_, args_kept m g h.1 c⟩) (run_main (F := Ideal) m g),
    (θ_run Cert.ReferenceIdeal.defs _ _).mono (fun r h => ⟨fun i _ => ?_, (h 0).2⟩) (Cert.ReferenceIdeal.Value.run (F := Ideal) m' g')⟩
  · obtain ⟨t, j, rfl⟩ : ∃ (t : Fin 256) (j : Fin 512), i = ix2 t j :=
      ⟨i 0, i 1, funext fun a => match a with | ⟨0, _⟩ => rfl | ⟨1, _⟩ => rfl⟩
    rw [Layout.blockN_apply, token_idx] at hi
    rw [Layout.blockN_apply, token_idx]
    refine (result_apply m g h.1 c t j).trans ((total_eq (hold c) (hold (peer c)) t j).trans ?_)
    exact (Ref.value (refArg0 m') (refArg1 m') (refArg2 m') (refArg3 m') (tok c t) j
      (Mask.routed (refArg0 m') (refArg1 m') (refArg2 m') (refArg3 m') (tok c t) j hi)).symm
  · exact congrFun ((h 0).1.trans (Cert.ReferenceIdeal.Read.val_main_v154_eq _)) i

end Cert.Moe

end
-- ==== Proof.lean ====
/-
# The certificate

The frames of the three programs and the equality of the kernel's result with the reference's, each proved in its own module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_no_tie
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.On_no_tie.Gen.facts,
    Cert.Moe.frame_kernel, Cert.Moe.frame_kernelIdeal, Cert.Moe.frame_reference, trivial, Cert.Moe.algebraic⟩

end Cert.Proof

end
